-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_affine_finite [hPre_affine_finite : Cert.Pre_affine_finite.Facts] (m : (ℓ : Loc Cert.KernelIdeal.nD Cert.KernelIdeal.τ Cert.KernelIdeal.sig) → Buf (Elt Ideal) ℓ) : Prop :=
  ∀ c : Dev Cert.KernelIdeal.nD,
    (Cert.Pre_affine_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_affine_finite [hPre_affine_finite : Cert.Pre_affine_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_affine_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_affine_finite [hKernelIdeal : Cert.KernelIdeal.Facts] [hPre_affine_finite : Cert.Pre_affine_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_affine_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_affine_finite [hReferenceIdeal : Cert.ReferenceIdeal.Facts] [hPre_affine_finite : Cert.Pre_affine_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_affine_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_affine_finite [hKernelIdeal : Cert.KernelIdeal.Facts] [hReferenceIdeal : Cert.ReferenceIdeal.Facts] [hPre_affine_finite : Cert.Pre_affine_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_affine_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_v67) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_affine_finite : Cert.Pre_affine_finite.Facts),
    quiescent_Kernel (hKernel := hKernel)
    ∧ quiescent_KernelIdeal (hKernelIdeal := hKernelIdeal)
    ∧ quiescent_KernelIdeal_pre_affine_finite (hKernelIdeal := hKernelIdeal) (hPre_affine_finite := hPre_affine_finite)
    ∧ quiescent_ReferenceIdeal (hReferenceIdeal := hReferenceIdeal)
    ∧ quiescent_ReferenceIdeal_pre_affine_finite (hReferenceIdeal := hReferenceIdeal) (hPre_affine_finite := hPre_affine_finite)
    ∧ preserves_Kernel_KernelIdeal
    ∧ algebraic_KernelIdeal_ReferenceIdeal_pre_affine_finite (hKernelIdeal := hKernelIdeal) (hReferenceIdeal := hReferenceIdeal) (hPre_affine_finite := hPre_affine_finite)
-- ==== Pre_affine_finite.lean ====
abbrev S2x512x7168 : Shape := ⟨3, ![2, 512, 7168]⟩
abbrev S7168 : Shape := ⟨1, ![7168]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S2x512x7168 .bf16) (main_arg1 : FVec F S2x512x7168 .bf16) (main_arg2 : FVec F S7168 .f32) (main_arg3 : IVec S2x512x7168 32) (main_arg4 : FVec F S7168 .f32) (main_arg5 : FVec F S7168 .f32) : IVec S7168 1 :=
  let main_v0 : FVec F S7168 .f32 := Host.absf main_arg4
  let main_cst : FVec F S_ .f32 := constant S_ .f32 0x7F7FFFFF#32
  let main_v1 : FVec F S7168 .f32 := broadcastInDim S7168 ![] bcast_S_S7168 main_cst
  let main_v2 : IVec S7168 1 := cmpf .ole main_v0 main_v1
  let main_v3 : FVec F S7168 .f32 := Host.absf main_arg5
  let main_cst_0 : FVec F S_ .f32 := constant S_ .f32 0x7F7FFFFF#32
  let main_v4 : FVec F S7168 .f32 := broadcastInDim S7168 ![] bcast_S_S7168 main_cst_0
  let main_v5 : IVec S7168 1 := cmpf .ole main_v3 main_v4
  let main_v6 : IVec S7168 1 := andi main_v2 main_v5
  main_v6
-- ==== Kernel.lean ====
abbrev S2x512x7168 : Shape := ⟨3, ![2, 512, 7168]⟩
abbrev S7168 : Shape := ⟨1, ![7168]⟩
abbrev S1024x7168 : Shape := ⟨2, ![1024, 7168]⟩
abbrev S1x7168 : Shape := ⟨2, ![1, 7168]⟩
abbrev S2x512 : Shape := ⟨2, ![2, 512]⟩
abbrev S128x7168 : Shape := ⟨2, ![128, 7168]⟩
abbrev S32x7168 : Shape := ⟨2, ![32, 7168]⟩
abbrev S448x128 : Shape := ⟨2, ![448, 128]⟩
abbrev S32x128 : Shape := ⟨2, ![32, 128]⟩
abbrev S1x128 : Shape := ⟨2, ![1, 128]⟩
abbrev S128 : Shape := ⟨1, ![128]⟩
abbrev S32 : Shape := ⟨1, ![32]⟩
abbrev S32x1 : Shape := ⟨2, ![32, 1]⟩
abbrev S8x128 : Shape := ⟨2, ![8, 128]⟩
abbrev S2x128 : Shape := ⟨2, ![2, 128]⟩

abbrev nBuf : Space → Nat
  | .hbm => 18
  | .vmem => 20
  | .smem => 0
  | _ => 0

abbrev bufTy : (tb : Table) → Fin (tcTables nBuf tb) → BufTy
  | .hbm, ⟨0, _⟩ => ⟨S2x512x7168, .bf16⟩
  | .hbm, ⟨1, _⟩ => ⟨S2x512x7168, .bf16⟩
  | .hbm, ⟨2, _⟩ => ⟨S7168, .f32⟩
  | .hbm, ⟨3, _⟩ => ⟨S2x512x7168, .i32⟩
  | .hbm, ⟨4, _⟩ => ⟨S7168, .f32⟩
  | .hbm, ⟨5, _⟩ => ⟨S7168, .f32⟩
  | .hbm, ⟨6, _⟩ => ⟨S1024x7168, .bf16⟩
  | .hbm, ⟨7, _⟩ => ⟨S1024x7168, .bf16⟩
  | .hbm, ⟨8, _⟩ => ⟨S1x7168, .f32⟩
  | .hbm, ⟨9, _⟩ => ⟨S1024x7168, .i32⟩
  | .hbm, ⟨10, _⟩ => ⟨S1x7168, .f32⟩
  | .hbm, ⟨11, _⟩ => ⟨S1x7168, .f32⟩
  | .hbm, ⟨12, _⟩ => ⟨S1024x7168, .fp8e4m3⟩
  | .hbm, ⟨13, _⟩ => ⟨S2x512, .f32⟩
  | .hbm, ⟨14, _⟩ => ⟨S128x7168, .i8⟩
  | .hbm, ⟨15, _⟩ => ⟨S2x512, .f32⟩
  | .hbm, ⟨16, _⟩ => ⟨S2x512, .f32⟩
  | .hbm, ⟨17, _⟩ => ⟨S1024x7168, .bf16⟩
  | .local _ .vmem, ⟨0, _⟩ => ⟨S32x7168, .bf16⟩
  | .local _ .vmem, ⟨1, _⟩ => ⟨S32x7168, .bf16⟩
  | .local _ .vmem, ⟨2, _⟩ => ⟨S32x7168, .bf16⟩
  | .local _ .vmem, ⟨3, _⟩ => ⟨S32x7168, .bf16⟩
  | .local _ .vmem, ⟨4, _⟩ => ⟨S1x7168, .f32⟩
  | .local _ .vmem, ⟨5, _⟩ => ⟨S32x7168, .i32⟩
  | .local _ .vmem, ⟨6, _⟩ => ⟨S32x7168, .i32⟩
  | .local _ .vmem, ⟨7, _⟩ => ⟨S1x7168, .f32⟩
  | .local _ .vmem, ⟨8, _⟩ => ⟨S1x7168, .f32⟩
  | .local _ .vmem, ⟨9, _⟩ => ⟨S32x7168, .fp8e4m3⟩
  | .local _ .vmem, ⟨10, _⟩ => ⟨S32x7168, .fp8e4m3⟩
  | .local _ .vmem, ⟨11, _⟩ => ⟨S2x512, .f32⟩
  | .local _ .vmem, ⟨12, _⟩ => ⟨S32x7168, .i8⟩
  | .local _ .vmem, ⟨13, _⟩ => ⟨S32x7168, .i8⟩
  | .local _ .vmem, ⟨14, _⟩ => ⟨S2x512, .f32⟩
  | .local _ .vmem, ⟨15, _⟩ => ⟨S2x512, .f32⟩
  | .local _ .vmem, ⟨16, _⟩ => ⟨S32x7168, .bf16⟩
  | .local _ .vmem, ⟨17, _⟩ => ⟨S32x7168, .bf16⟩
  | .local _ .vmem, ⟨18, _⟩ => ⟨S32x7168, .f32⟩
  | .local _ .vmem, ⟨19, _⟩ => ⟨S448x128, .i32⟩
  | _, _ => ⟨S2x512x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def k0_off1 (i : grid0.Coords) (c0_i32_17 : BitVec 32) : Fin 2 → Nat :=
  let arg0 : BitVec 32 := BitVec.ofNat 32 (i 0).val
  let c8_i32 : BitVec 32 := 8#32
  let c0_i32_12 : BitVec 32 := 0#32
  let v31 : BitVec 1 := Scalar.cmpi .eq c8_i32 c0_i32_12
  let c1_i32_13 : BitVec 32 := 1#32
  let v32 : BitVec 32 := Scalar.select v31 c1_i32_13 c8_i32
  let v33 : BitVec 32 := Scalar.remsi arg0 v32
  let c0_i32_15 : BitVec 32 := 0#32
  let v35 : BitVec 1 := Scalar.cmpi .slt v33 c0_i32_15
  let c0_i32_16 : BitVec 32 := 0#32
  let v36 : BitVec 1 := Scalar.cmpi .slt v32 c0_i32_16
  let v37 : BitVec 1 := Scalar.xori v35 v36
  let c0_i32_14 : BitVec 32 := 0#32
  let v34 : BitVec 1 := Scalar.cmpi .ne v33 c0_i32_14
  let v38 : BitVec 1 := Scalar.andi v37 v34
  let v39 : BitVec 32 := Scalar.addi v33 v32
  let v40 : BitVec 32 := Scalar.select v38 v39 v33
  let v41 : BitVec 32 := Scalar.addi c0_i32_17 v40
  let v42 : Index := Scalar.indexCast v41
  let c0_18 : Index := 0#32
  ![v42.toNat, 0]
def k0_mult1 (i : grid0.Coords) : BitVec 32 :=
  let arg0 : BitVec 32 := BitVec.ofNat 32 (i 0).val
  let c0_i32_2225 : BitVec 32 := 0#32
  let v4273 : BitVec 1 := Scalar.cmpi .sgt arg0 c0_i32_2225
  let v4274 : BitVec 32 := Scalar.extui v4273
  let c0_i32_2226 : BitVec 32 := 0#32
  let v4275 : BitVec 1 := Scalar.cmpi .slt arg0 c0_i32_2226
  let v4276 : BitVec 32 := Scalar.extui v4275
  let v4277 : BitVec 32 := Scalar.subi v4274 v4276
  let c4_i32_2224 : BitVec 32 := 4#32
  let c0_i32_2227 : BitVec 32 := 0#32
  let v4278 : BitVec 1 := Scalar.cmpi .sgt c4_i32_2224 c0_i32_2227
  let v4279 : BitVec 32 := Scalar.extui v4278
  let c0_i32_2228 : BitVec 32 := 0#32
  let v4280 : BitVec 1 := Scalar.cmpi .slt c4_i32_2224 c0_i32_2228
  let v4281 : BitVec 32 := Scalar.extui v4280
  let v4282 : BitVec 32 := Scalar.subi v4279 v4281
  let v4283 : BitVec 1 := Scalar.cmpi .ne v4277 v4282
  let v4284 : BitVec 32 := Scalar.remsi arg0 c4_i32_2224
  let c0_i32_2229 : BitVec 32 := 0#32
  let v4285 : BitVec 1 := Scalar.cmpi .ne v4284 c0_i32_2229
  let v4286 : BitVec 1 := Scalar.andi v4283 v4285
  let v4272 : BitVec 32 := Scalar.divsi arg0 c4_i32_2224
  let c1_i32_2230 : BitVec 32 := 1#32
  let v4287 : BitVec 32 := Scalar.subi v4272 c1_i32_2230
  let v4288 : BitVec 32 := Scalar.select v4286 v4287 v4272
  let c4_i32_2238 : BitVec 32 := 4#32
  let c0_i32_2239 : BitVec 32 := 0#32
  let v4306 : BitVec 1 := Scalar.cmpi .eq c4_i32_2238 c0_i32_2239
  let c1_i32_2240 : BitVec 32 := 1#32
  let v4307 : BitVec 32 := Scalar.select v4306 c1_i32_2240 c4_i32_2238
  let v4308 : BitVec 32 := Scalar.remsi v4288 v4307
  let c0_i32_2242 : BitVec 32 := 0#32
  let v4310 : BitVec 1 := Scalar.cmpi .slt v4308 c0_i32_2242
  let c0_i32_2243 : BitVec 32 := 0#32
  let v4311 : BitVec 1 := Scalar.cmpi .slt v4307 c0_i32_2243
  let v4312 : BitVec 1 := Scalar.xori v4310 v4311
  let c0_i32_2241 : BitVec 32 := 0#32
  let v4309 : BitVec 1 := Scalar.cmpi .ne v4308 c0_i32_2241
  let v4313 : BitVec 1 := Scalar.andi v4312 v4309
  let v4314 : BitVec 32 := Scalar.addi v4308 v4307
  let v4315 : BitVec 32 := Scalar.select v4313 v4314 v4308
  let c128_i32_2244 : BitVec 32 := 128#32
  let v4316 : BitVec 32 := Scalar.muli v4315 c128_i32_2244
  v4316
def k0_off2 (i : grid0.Coords) : Fin 2 → Nat :=
  let c0_2257 : Index := 0#32
  let arg0 : BitVec 32 := BitVec.ofNat 32 (i 0).val
  let c0_i32_2225 : BitVec 32 := 0#32
  let v4273 : BitVec 1 := Scalar.cmpi .sgt arg0 c0_i32_2225
  let v4274 : BitVec 32 := Scalar.extui v4273
  let c0_i32_2226 : BitVec 32 := 0#32
  let v4275 : BitVec 1 := Scalar.cmpi .slt arg0 c0_i32_2226
  let v4276 : BitVec 32 := Scalar.extui v4275
  let v4277 : BitVec 32 := Scalar.subi v4274 v4276
  let c4_i32_2224 : BitVec 32 := 4#32
  let c0_i32_2227 : BitVec 32 := 0#32
  let v4278 : BitVec 1 := Scalar.cmpi .sgt c4_i32_2224 c0_i32_2227
  let v4279 : BitVec 32 := Scalar.extui v4278
  let c0_i32_2228 : BitVec 32 := 0#32
  let v4280 : BitVec 1 := Scalar.cmpi .slt c4_i32_2224 c0_i32_2228
  let v4281 : BitVec 32 := Scalar.extui v4280
  let v4282 : BitVec 32 := Scalar.subi v4279 v4281
  let v4283 : BitVec 1 := Scalar.cmpi .ne v4277 v4282
  let v4284 : BitVec 32 := Scalar.remsi arg0 c4_i32_2224
  let c0_i32_2229 : BitVec 32 := 0#32
  let v4285 : BitVec 1 := Scalar.cmpi .ne v4284 c0_i32_2229
  let v4286 : BitVec 1 := Scalar.andi v4283 v4285
  let v4272 : BitVec 32 := Scalar.divsi arg0 c4_i32_2224
  let c1_i32_2230 : BitVec 32 := 1#32
  let v4287 : BitVec 32 := Scalar.subi v4272 c1_i32_2230
  let v4288 : BitVec 32 := Scalar.select v4286 v4287 v4272
  let c4_i32_2238 : BitVec 32 := 4#32
  let c0_i32_2239 : BitVec 32 := 0#32
  let v4306 : BitVec 1 := Scalar.cmpi .eq c4_i32_2238 c0_i32_2239
  let c1_i32_2240 : BitVec 32 := 1#32
  let v4307 : BitVec 32 := Scalar.select v4306 c1_i32_2240 c4_i32_2238
  let v4308 : BitVec 32 := Scalar.remsi v4288 v4307
  let c0_i32_2242 : BitVec 32 := 0#32
  let v4310 : BitVec 1 := Scalar.cmpi .slt v4308 c0_i32_2242
  let c0_i32_2243 : BitVec 32 := 0#32
  let v4311 : BitVec 1 := Scalar.cmpi .slt v4307 c0_i32_2243
  let v4312 : BitVec 1 := Scalar.xori v4310 v4311
  let c0_i32_2241 : BitVec 32 := 0#32
  let v4309 : BitVec 1 := Scalar.cmpi .ne v4308 c0_i32_2241
  let v4313 : BitVec 1 := Scalar.andi v4312 v4309
  let v4314 : BitVec 32 := Scalar.addi v4308 v4307
  let v4315 : BitVec 32 := Scalar.select v4313 v4314 v4308
  let c128_i32_2244 : BitVec 32 := 128#32
  let v4316 : BitVec 32 := Scalar.muli v4315 c128_i32_2244
  let v4317 : BitVec 32 := v4316
  let v4349 : Index := Scalar.indexCast v4317
  ![0, v4349.toNat]
def k0_cond1 (i : grid0.Coords) : BitVec 1 :=
  let arg0 : BitVec 32 := BitVec.ofNat 32 (i 0).val
  let c8_i32_2210 : BitVec 32 := 8#32
  let c0_i32_2211 : BitVec 32 := 0#32
  let v4244 : BitVec 1 := Scalar.cmpi .eq c8_i32_2210 c0_i32_2211
  let c1_i32_2212 : BitVec 32 := 1#32
  let v4245 : BitVec 32 := Scalar.select v4244 c1_i32_2212 c8_i32_2210
  let v4246 : BitVec 32 := Scalar.remsi arg0 v4245
  let c0_i32_2214 : BitVec 32 := 0#32
  let v4248 : BitVec 1 := Scalar.cmpi .slt v4246 c0_i32_2214
  let c0_i32_2215 : BitVec 32 := 0#32
  let v4249 : BitVec 1 := Scalar.cmpi .slt v4245 c0_i32_2215
  let v4250 : BitVec 1 := Scalar.xori v4248 v4249
  let c0_i32_2213 : BitVec 32 := 0#32
  let v4247 : BitVec 1 := Scalar.cmpi .ne v4246 c0_i32_2213
  let v4251 : BitVec 1 := Scalar.andi v4250 v4247
  let v4252 : BitVec 32 := Scalar.addi v4246 v4245
  let v4253 : BitVec 32 := Scalar.select v4251 v4252 v4246
  let c7_i32 : BitVec 32 := 7#32
  let v4254 : BitVec 1 := Scalar.cmpi .eq v4253 c7_i32
  let v4255 : BitVec 32 := Scalar.extui v4254
  let c0_i32_2216 : BitVec 32 := 0#32
  let v4256 : BitVec 1 := Scalar.cmpi .ne v4255 c0_i32_2216
  v4256

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x7168 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x7168 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S32x7168 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S2x512x7168 : Shape := ⟨3, ![2, 512, 7168]⟩
abbrev S7168 : Shape := ⟨1, ![7168]⟩
abbrev S_ : Shape := ⟨0, ![]⟩
abbrev S1x1x7168 : Shape := ⟨3, ![1, 1, 7168]⟩
abbrev S2x512 : Shape := ⟨2, ![2, 512]⟩
abbrev S2x512x1 : Shape := ⟨3, ![2, 512, 1]⟩
abbrev S2x64x8x7168 : Shape := ⟨4, ![2, 64, 8, 7168]⟩
abbrev S8 : Shape := ⟨1, ![8]⟩
abbrev S8x1 : Shape := ⟨2, ![8, 1]⟩
abbrev S1x1x8x1 : Shape := ⟨4, ![1, 1, 8, 1]⟩
abbrev S2x64x7168 : Shape := ⟨3, ![2, 64, 7168]⟩
abbrev S128x7168 : Shape := ⟨2, ![128, 7168]⟩
abbrev S1024x7168 : Shape := ⟨2, ![1024, 7168]⟩

abbrev nBuf : Space → Nat
  | .hbm => 97
  | .vmem => 2
  | .smem => 0
  | _ => 0

abbrev bufTy : (tb : Table) → Fin (tcTables nBuf tb) → BufTy
  | .hbm, ⟨0, _⟩ => ⟨S2x512x7168, .bf16⟩
  | .hbm, ⟨1, _⟩ => ⟨S2x512x7168, .bf16⟩
  | .hbm, ⟨2, _⟩ => ⟨S7168, .f32⟩
  | .hbm, ⟨3, _⟩ => ⟨S2x512x7168, .i32⟩
  | .hbm, ⟨4, _⟩ => ⟨S7168, .f32⟩
  | .hbm, ⟨5, _⟩ => ⟨S7168, .f32⟩
  | .hbm, ⟨6, _⟩ => ⟨S_, .i32⟩
  | .hbm, ⟨7, _⟩ => ⟨S2x512x7168, .i32⟩
  | .hbm, ⟨8, _⟩ => ⟨S2x512x7168, .i1⟩
  | .hbm, ⟨9, _⟩ => ⟨S2x512x7168, .f32⟩
  | .hbm, ⟨10, _⟩ => ⟨S1x1x7168, .f32⟩
  | .hbm, ⟨11, _⟩ => ⟨S2x512x7168, .f32⟩
  | .hbm, ⟨12, _⟩ => ⟨S2x512x7168, .f32⟩
  | .hbm, ⟨13, _⟩ => ⟨S_, .f32⟩
  | .hbm, ⟨14, _⟩ => ⟨S2x512x7168, .f32⟩
  | .hbm, ⟨15, _⟩ => ⟨S2x512x7168, .f32⟩
  | .hbm, ⟨16, _⟩ => ⟨S_, .f32⟩
  | .hbm, ⟨17, _⟩ => ⟨S_, .f32⟩
  | .hbm, ⟨18, _⟩ => ⟨S2x512x7168, .f32⟩
  | .hbm, ⟨19, _⟩ => ⟨S2x512x7168, .f32⟩
  | .hbm, ⟨20, _⟩ => ⟨S2x512x7168, .f32⟩
  | .hbm, ⟨21, _⟩ => ⟨S2x512x7168, .f32⟩
  | .hbm, ⟨22, _⟩ => ⟨S2x512x7168, .bf16⟩
  | .hbm, ⟨23, _⟩ => ⟨S2x512x7168, .f32⟩
  | .hbm, ⟨24, _⟩ => ⟨S_, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512x1, .f32⟩
  | .hbm, ⟨30, _⟩ => ⟨S2x512x7168, .f32⟩
  | .hbm, ⟨31, _⟩ => ⟨S2x512x7168, .f32⟩
  | .hbm, ⟨32, _⟩ => ⟨S2x512x7168, .f32⟩
  | .hbm, ⟨33, _⟩ => ⟨S_, .f32⟩
  | .hbm, ⟨34, _⟩ => ⟨S2x512, .f32⟩
  | .hbm, ⟨35, _⟩ => ⟨S_, .f32⟩
  | .hbm, ⟨36, _⟩ => ⟨S2x512, .f32⟩
  | .hbm, ⟨37, _⟩ => ⟨S2x512, .f32⟩
  | .hbm, ⟨38, _⟩ => ⟨S_, .f32⟩
  | .hbm, ⟨39, _⟩ => ⟨S2x512, .f32⟩
  | .hbm, ⟨40, _⟩ => ⟨S2x512, .f32⟩
  | .hbm, ⟨41, _⟩ => ⟨S2x512, .f32⟩
  | .hbm, ⟨42, _⟩ => ⟨S2x512x1, .f32⟩
  | .hbm, ⟨43, _⟩ => ⟨S2x512x7168, .f32⟩
  | .hbm, ⟨44, _⟩ => ⟨S2x512x7168, .f32⟩
  | .hbm, ⟨45, _⟩ => ⟨S1x1x7168, .f32⟩
  | .hbm, ⟨46, _⟩ => ⟨S2x512x7168, .f32⟩
  | .hbm, ⟨47, _⟩ => ⟨S2x512x7168, .f32⟩
  | .hbm, ⟨48, _⟩ => ⟨S1x1x7168, .f32⟩
  | .hbm, ⟨49, _⟩ => ⟨S2x512x7168, .f32⟩
  | .hbm, ⟨50, _⟩ => ⟨S2x512x7168, .f32⟩
  | .hbm, ⟨51, _⟩ => ⟨S2x512x7168, .f32⟩
  | .hbm, ⟨52, _⟩ => ⟨S_, .f32⟩
  | .hbm, ⟨53, _⟩ => ⟨S2x512, .f32⟩
  | .hbm, ⟨54, _⟩ => ⟨S_, .f32⟩
  | .hbm, ⟨55, _⟩ => ⟨S2x512, .f32⟩
  | .hbm, ⟨56, _⟩ => ⟨S2x512, .f32⟩
  | .hbm, ⟨57, _⟩ => ⟨S2x512, .f32⟩
  | .hbm, ⟨58, _⟩ => ⟨S_, .f32⟩
  | .hbm, ⟨59, _⟩ => ⟨S_, .f32⟩
  | .hbm, ⟨60, _⟩ => ⟨S2x512, .f32⟩
  | .hbm, ⟨61, _⟩ => ⟨S2x512, .f32⟩
  | .hbm, ⟨62, _⟩ => ⟨S2x512, .f32⟩
  | .hbm, ⟨63, _⟩ => ⟨S_, .f32⟩
  | .hbm, ⟨64, _⟩ => ⟨S2x512, .f32⟩
  | .hbm, ⟨65, _⟩ => ⟨S2x512, .f32⟩
  | .hbm, ⟨66, _⟩ => ⟨S_, .f32⟩
  | .hbm, ⟨67, _⟩ => ⟨S2x512, .f32⟩
  | .hbm, ⟨68, _⟩ => ⟨S2x512, .i1⟩
  | .hbm, ⟨69, _⟩ => ⟨S_, .f32⟩
  | .hbm, ⟨70, _⟩ => ⟨S_, .f32⟩
  | .hbm, ⟨71, _⟩ => ⟨S2x512, .f32⟩
  | .hbm, ⟨72, _⟩ => ⟨S2x512, .f32⟩
  | .hbm, ⟨73, _⟩ => ⟨S_, .f32⟩
  | .hbm, ⟨74, _⟩ => ⟨S2x512, .f32⟩
  | .hbm, ⟨75, _⟩ => ⟨S2x512, .f32⟩
  | .hbm, ⟨76, _⟩ => ⟨S2x512, .f32⟩
  | .hbm, ⟨77, _⟩ => ⟨S_, .f32⟩
  | .hbm, ⟨78, _⟩ => ⟨S2x512, .f32⟩
  | .hbm, ⟨79, _⟩ => ⟨S2x512, .f32⟩
  | .hbm, ⟨80, _⟩ => ⟨S2x512x1, .f32⟩
  | .hbm, ⟨81, _⟩ => ⟨S2x512x7168, .f32⟩
  | .hbm, ⟨82, _⟩ => ⟨S2x512x7168, .f32⟩
  | .hbm, ⟨83, _⟩ => ⟨S2x64x8x7168, .i1⟩
  | .hbm, ⟨84, _⟩ => ⟨S2x64x8x7168, .i32⟩
  | .hbm, ⟨85, _⟩ => ⟨S8, .i32⟩
  | .hbm, ⟨86, _⟩ => ⟨S8x1, .i32⟩
  | .hbm, ⟨87, _⟩ => ⟨S1x1x8x1, .i32⟩
  | .hbm, ⟨88, _⟩ => ⟨S2x64x8x7168, .i32⟩
  | .hbm, ⟨89, _⟩ => ⟨S2x64x8x7168, .i32⟩
  | .hbm, ⟨90, _⟩ => ⟨S_, .i32⟩
  | .hbm, ⟨91, _⟩ => ⟨S2x64x7168, .i32⟩
  | .hbm, ⟨92, _⟩ => ⟨S2x64x7168, .i8⟩
  | .hbm, ⟨93, _⟩ => ⟨S128x7168, .i8⟩
  | .hbm, ⟨94, _⟩ => ⟨S1024x7168, .bf16⟩
  | .hbm, ⟨95, _⟩ => ⟨S1024x7168, .f32⟩
  | .hbm, ⟨96, _⟩ => ⟨S1024x7168, .fp8e4m3⟩
  | .local _ .vmem, ⟨0, _⟩ => ⟨S1024x7168, .f32⟩
  | .local _ .vmem, ⟨1, _⟩ => ⟨S1024x7168, .fp8e4m3⟩
  | _, _ => ⟨S2x512x7168, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_call1_v0 : Ref sig .tc := ⟨.hbm, 70, rfl⟩
abbrev main_call1_v1 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1024x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Fold.lean ====
/- The kernel body as four loops over the 56 tiles of 128 columns: what one tile does in each loop, and the
   loop. Generic in the signature and in the float type, so that it serves both programs. -/
module

public import Idealize.ShloMosaic.Lib.VecWindow

@[expose] public section

noncomputable section

namespace Cert.Fold

open Idealize.ShloMosaic Idealize.SL.Sem

/-- A block of 32 whole rows. -/
abbrev SB : Shape := ⟨2, ![32, 7168]⟩
/-- One tile of a block. -/
abbrev ST : Shape := ⟨2, ![32, 128]⟩
/-- A whole parameter vector, as one row. -/
abbrev SR : Shape := ⟨2, ![1, 7168]⟩
/-- One tile of a row. -/
abbrev SRT : Shape := ⟨2, ![1, 128]⟩
/-- The packed words of eight consecutive blocks. -/
abbrev SW : Shape := ⟨2, ![448, 128]⟩
/-- The eight words rows of one tile. -/
abbrev SWT : Shape := ⟨2, ![8, 128]⟩
/-- The per-token results. -/
abbrev SS : Shape := ⟨2, ![2, 512]⟩
/-- One tile of the per-token results. -/
abbrev SST : Shape := ⟨2, ![2, 128]⟩

theorem inbB (j : Fin 56) : ∀ a, (![0, 128 * j.val] : Fin 2 → ℕ) a + ST.size a ≤ SB.size a := by
  intro a; have := j.isLt; fin_cases a <;> simp <;> omega
theorem inbR (j : Fin 56) : ∀ a, (![0, 128 * j.val] : Fin 2 → ℕ) a + SRT.size a ≤ SR.size a := by
  intro a; have := j.isLt; fin_cases a <;> simp <;> omega
theorem inbW (j : Fin 56) : ∀ a, (![8 * j.val, 0] : Fin 2 → ℕ) a + SWT.size a ≤ SW.size a := by
  intro a; have := j.isLt; fin_cases a <;> simp <;> omega

/-- Tile `j` of a block. -/
abbrev rB (j : Fin 56) : Rect SB := Rect.unit (s := SB) ![0, 128 * j.val] ST.size (inbB j)
/-- Tile `j` of a row. -/
abbrev rR (j : Fin 56) : Rect SR := Rect.unit (s := SR) ![0, 128 * j.val] SRT.size (inbR j)
/-- The words of tile `j`. -/
abbrev rW (j : Fin 56) : Rect SW := Rect.unit (s := SW) ![8 * j.val, 0] SWT.size (inbW j)

theorem hST : 0 < ST.numel := by decide
theorem hSRT : 0 < SRT.numel := by decide
theorem hSWT : 0 < SWT.numel := by decide

/-- `f` at tiles 0 to 55 in order, in continuation-passing style. -/
def loop {σ : Type} {P : Type 1} (f : Fin 56 → σ → (σ → P) → P) : (m : ℕ) → m ≤ 56 → σ → (σ → P) → P
  | 0, _, s, k => k s
  | m + 1, h, s, k => f ⟨55 - m, Nat.lt_of_le_of_lt (Nat.sub_le 55 m) (by decide)⟩ s
      fun s' => loop f m (Nat.le_of_succ_le h) s' k

section

variable {nD : ℕ} {τ : Topo} {sig : RefSig} {Λ : Labels} {F : FTy → Type}

/-- The pure values that the body's tiles compute, each over what was loaded. -/
structure Pays (F : FTy → Type) where
  h : Vec F ST .i32 → Vec F ST .bf16 → Vec F SRT .f32 → Vec F ST .bf16 → Vec F ST .bf16
  acc1 : FVec F ST .f32 → Vec F ST .bf16 → FVec F ST .f32
  word : Vec F ST .i32 → Vec F SRT .i32
  c : FVec F ST .f32 → Vec F ST .bf16 → FVec F ST .f32
  acc2 : FVec F ST .f32 → FVec F ST .f32 → FVec F ST .f32
  y : FVec F ST .f32 → Vec F ST .f32 → Vec F SRT .f32 → Vec F SRT .f32 → FVec F ST .f32
  acc3 : FVec F ST .f32 → FVec F ST .f32 → FVec F ST .f32
  st : FVec F ST .f32 → FVec F ST .f32
  code : FVec F ST .f32 → Vec F ST .f32 → Vec F ST .fp8e4m3
  mask : Vec F SWT .i32 → Vec F ST .i8

abbrev Pr (nD : ℕ) (τ : Topo) (sig : RefSig) (F : FTy → Type) (Λ : Labels) (α : Type) := Prog (TpuEff nD τ sig (Elt F) Λ .tc) α

variable {α : Type} (p : Pays F)

/-- First loop: the residual sum `h` of tile `j`, its running sum, and the tile's packed keep bits. -/
def tile1 (x a h : Memref sig .tc .vmem SB .bf16) (bias : Memref sig .tc .vmem SR .f32)
    (rand : Memref sig .tc .vmem SB .i32) (words : Memref sig .tc .vmem SW .i32)
    (hh : ∀ j, (h.access (rB j)).Stores Finset.univ)
    (woff : Fin 56 → Fin 2 → ℕ) (hw : ∀ j a, woff j a + SRT.size a ≤ SW.size a)
    (j : Fin 56) (acc : FVec F ST .f32) (k : FVec F ST .f32 → Pr nD τ sig F Λ α) : Pr nD τ sig F Λ α :=
  .op (.load rand (rB j).toLoadRect (View.loadsAt_vmem hST)) fun r =>
  .op (.load a (rB j).toLoadRect (View.loadsAt_vmem hST)) fun av =>
  .op (.load bias (rR j).toLoadRect (View.loadsAt_vmem hSRT)) fun b =>
  .op (.load x (rB j).toLoadRect (View.loadsAt_vmem hST)) fun xv =>
  .op (.load h (rB j).toLoadRect (View.loadsAt_vmem hST)) fun _ =>
  .op (.store h (rB j) (p.h r av b xv) Finset.univ (hh j) (.inl rfl)) fun _ =>
  .op (.load words (Rect.unit (s := SW) (woff j) SRT.size (hw j)).toLoadRect (View.loadsAt_vmem hSRT)) fun _ =>
  .op (.store words (Rect.unit (s := SW) (woff j) SRT.size (hw j)) (p.word r) Finset.univ
    (View.stores_vmem_bits_univ hSRT rfl) (.inl rfl)) fun _ =>
  k (p.acc1 acc (p.h r av b xv))

/-- Second loop: the centred values and the running sum of their squares. -/
def tile2 (h : Memref sig .tc .vmem SB .bf16) (f : Memref sig .tc .vmem SB .f32) (mean : FVec F ST .f32)
    (j : Fin 56) (acc : FVec F ST .f32) (k : FVec F ST .f32 → Pr nD τ sig F Λ α) : Pr nD τ sig F Λ α :=
  .op (.load h (rB j).toLoadRect (View.loadsAt_vmem hST)) fun hv =>
  .op (.load f (rB j).toLoadRect (View.loadsAt_vmem hST)) fun _ =>
  .op (.store f (rB j) (p.st (p.c mean hv)) Finset.univ (View.stores_vmem_bits_univ hST rfl) (.inl rfl)) fun _ =>
  k (p.acc2 acc (p.c mean hv))

/-- Third loop: the normalised values and the running maximum of their magnitudes. -/
def tile3 (f : Memref sig .tc .vmem SB .f32) (gamma beta : Memref sig .tc .vmem SR .f32) (rstd : FVec F ST .f32)
    (j : Fin 56) (acc : FVec F ST .f32) (k : FVec F ST .f32 → Pr nD τ sig F Λ α) : Pr nD τ sig F Λ α :=
  .op (.load f (rB j).toLoadRect (View.loadsAt_vmem hST)) fun fv =>
  .op (.load gamma (rR j).toLoadRect (View.loadsAt_vmem hSRT)) fun g =>
  .op (.load beta (rR j).toLoadRect (View.loadsAt_vmem hSRT)) fun b =>
  .op (.load f (rB j).toLoadRect (View.loadsAt_vmem hST)) fun _ =>
  .op (.store f (rB j) (p.st (p.y rstd fv g b)) Finset.univ (View.stores_vmem_bits_univ hST rfl) (.inl rfl)) fun _ =>
  k (p.acc3 acc (p.y rstd fv g b))

/-- Fourth loop: the codes. -/
def tile4 (f : Memref sig .tc .vmem SB .f32) (codes : Memref sig .tc .vmem SB .fp8e4m3)
    (hc : ∀ j, (codes.access (rB j)).Stores Finset.univ) (inv : FVec F ST .f32)
    (j : Fin 56) (u : Unit) (k : Unit → Pr nD τ sig F Λ α) : Pr nD τ sig F Λ α :=
  .op (.load f (rB j).toLoadRect (View.loadsAt_vmem hST)) fun fv =>
  .op (.load codes (rB j).toLoadRect (View.loadsAt_vmem hST)) fun _ =>
  .op (.store codes (rB j) (p.code inv fv) Finset.univ (hc j) (.inl rfl)) fun _ => k u

/-- At every eighth block: the bytes of the packed words. -/
def tile5 (words : Memref sig .tc .vmem SW .i32) (mask : Memref sig .tc .vmem SB .i8)
    (hm : ∀ j, (mask.access (rB j)).Stores Finset.univ)
    (j : Fin 56) (u : Unit) (k : Unit → Pr nD τ sig F Λ α) : Pr nD τ sig F Λ α :=
  .op (.load words (rW j).toLoadRect (View.loadsAt_vmem hSWT)) fun w =>
  .op (.load mask (rB j).toLoadRect (View.loadsAt_vmem hST)) fun _ =>
  .op (.store mask (rB j) (p.mask w) Finset.univ (hm j) (.inl rfl)) fun _ => k u

end

end Cert.Fold

end
-- ==== Proof.FoldP.lean ====
/- The printed body is the four loops. -/
module

public import proofs.«01_k».proof.Proof.Fold
public import proofs.«01_k».proof.Proof.Gen.Kernel.Skeleton

@[expose] public section

noncomputable section

namespace Cert.Kernel.Body

open Idealize.ShloMosaic Idealize.SL.Sem Cert.Fold
open Cert.Kernel Cert.Kernel.Gen

variable {F : FTy → Type} [FloatOps F]

/-- What the body computes on each tile. -/
def pays : Pays F where
  h r a b x := k0_pay63 r a b x
  acc1 acc h := addf acc (extf .f32 h bitsLt_bf16_f32)
  word r := k0_pay61 (k0_pay65 k0_pay56 r)
  c m h := k0_pay339 m h
  acc2 acc c := addf acc (mulf c c)
  y rs f g b := addf (mulf (mulf f rs) (broadcastTo S32x128 (shapeCast S1x128 g shapeCasts_S1x128_S1x128) broadcasts_S1x128_S32x128))
    (broadcastTo S32x128 (shapeCast S1x128 b shapeCasts_S1x128_S1x128) broadcasts_S1x128_S32x128)
  acc3 acc y := maximumf acc (absf y)
  st v := shapeCast S32x128 v shapeCasts_S32x128_S32x128
  code inv f := k0_pay674 inv f
  mask w := k0_pay675 w

def zero : FVec F S32x128 .f32 := broadcast S32x128 (Scalar.ofBits .f32 0x00000000#32)

/-- The mean over the row, in every lane. -/
def meanOf (acc : FVec F S32x128 .f32) : FVec F S32x128 .f32 :=
  broadcastTo S32x128 (shapeCast S32x1 (mulf (shapeCast S32x1 (multiReduction .add [1] S32 acc 0x00000000#32 reduces_S32x128_S32 (.inl rfl) rfl) shapeCasts_S32_S32x1)
    (broadcast S32x1 (Scalar.ofBits .f32 0x39124925#32))) shapeCasts_S32x1_S32x1) broadcasts_S32x1_S32x128

/-- The reciprocal root of the variance, in every lane. -/
def rstdOf (acc : FVec F S32x128 .f32) : FVec F S32x128 .f32 :=
  k0_pay466 (mulf (shapeCast S32x1 (multiReduction .add [1] S32 acc 0x00000000#32 reduces_S32x128_S32 (.inl rfl) rfl) shapeCasts_S32_S32x1)
    (broadcast S32x1 (Scalar.ofBits .f32 0x39124925#32))) (Scalar.ofBits .f32 0x3727C5AC#32)

/-- The largest magnitude of the row over the largest code, in every lane. -/
def vOf (acc : FVec F S32x128 .f32) : FVec F S32x128 .f32 :=
  mulf (broadcastTo S32x128 (shapeCast S32x1 (shapeCast S32x1 (multiReduction .maximumf [1] S32 acc 0xFF800000#32 reduces_S32x128_S32 (.inl rfl) rfl) shapeCasts_S32_S32x1)
    shapeCasts_S32x1_S32x1) broadcasts_S32x1_S32x128) (broadcast S32x128 (Scalar.ofBits .f32 0x3B124925#32))

/-- One probe of the exponent search. -/
def probe (v : FVec F S32x128 .f32) (bit : BitVec 32) (b : IVec S32x128 32) : IVec S32x128 32 :=
  select (cmpf .oge v (bitcastToFloat .f32 (shli (addi b (broadcast S32x128 bit)) (broadcast S32x128 23#32)))) (addi b (broadcast S32x128 bit)) b

/-- The biased exponent, by eight probes. -/
def biased (v : FVec F S32x128 .f32) : IVec S32x128 32 :=
  k0_pay614 v (probe v 64#32 (probe v 128#32 (broadcast S32x128 0#32))) 32#32

def expOf (v : FVec F S32x128 .f32) : IVec S32x128 32 :=
  k0_pay617 (biased v) (subi (biased v) (broadcast S32x128 126#32)) (cmpi .eq (biased v) (broadcast S32x128 0#32)) 255#32
def invOf (v : FVec F S32x128 .f32) : FVec F S32x128 .f32 :=
  k0_pay618 (F := F) (biased v) (subi (biased v) (broadcast S32x128 126#32)) (cmpi .eq (biased v) (broadcast S32x128 0#32)) 255#32

def iota1 : IVec S32x128 32 := iota .tc S32x128 32 [1] iota_S32x128_d1_w32
def iota0 : IVec S32x128 32 := iota .tc S32x128 32 [0] iota_S32x128_d0_w32

def tileId (arg0 : BitVec 32) : BitVec 32 :=
  let v4272 : BitVec 32 := Scalar.divsi arg0 4#32
  let v4273 : BitVec 1 := Scalar.cmpi .sgt arg0 0#32
  let v4274 : BitVec 32 := Scalar.extui v4273
  let v4275 : BitVec 1 := Scalar.cmpi .slt arg0 0#32
  let v4276 : BitVec 32 := Scalar.extui v4275
  let v4277 : BitVec 32 := Scalar.subi v4274 v4276
  let v4278 : BitVec 1 := Scalar.cmpi .sgt 4#32 0#32
  let v4279 : BitVec 32 := Scalar.extui v4278
  let v4280 : BitVec 1 := Scalar.cmpi .slt 4#32 0#32
  let v4281 : BitVec 32 := Scalar.extui v4280
  let v4282 : BitVec 32 := Scalar.subi v4279 v4281
  let v4283 : BitVec 1 := Scalar.cmpi .ne v4277 v4282
  let v4284 : BitVec 32 := Scalar.remsi arg0 4#32
  let v4285 : BitVec 1 := Scalar.cmpi .ne v4284 0#32
  let v4286 : BitVec 1 := Scalar.andi v4283 v4285
  let v4287 : BitVec 32 := Scalar.subi v4272 1#32
  Scalar.select v4286 v4287 v4272

/-- The batch of the block. -/
def batchOf (arg0 : BitVec 32) : BitVec 32 := tileId (tileId arg0)

abbrev a0 (i : grid0.Coords) : BitVec 32 := BitVec.ofNat 32 (i 0).val

def scaleLine (i : grid0.Coords) (v : FVec F S32x128 .f32) (old : Vec F S2x128 .f32) : FVec F S2x128 .f32 :=
  k0_pay680 (a0 i) (expOf v) iota1 (k0_pay678 (a0 i) iota0) (batchOf (a0 i)) old
def meanLine (i : grid0.Coords) (v : FVec F S32x128 .f32) (old : Vec F S2x128 .f32) : FVec F S2x128 .f32 :=
  k0_pay1 v (k0_pay678 (a0 i) iota0) (k0_pay679 (a0 i) iota1 (batchOf (a0 i))) k0_pay681 old
def rstdLine (i : grid0.Coords) (v : FVec F S32x128 .f32) (old : Vec F S2x128 .f32) : FVec F S2x128 .f32 :=
  k0_pay2 v (k0_pay678 (a0 i) iota0) (k0_pay679 (a0 i) iota1 (batchOf (a0 i))) old

theorem packedBf16 (j : Fin 56) : (rB j).PackedRows (EltTy.packing .bf16) := by
  revert j; decide +kernel
theorem packedI8 (j : Fin 56) : (rB j).PackedRows (EltTy.packing .i8) := by
  revert j; decide +kernel
theorem packedFp8 (j : Fin 56) : (rB j).PackedRows (EltTy.packing .fp8e4m3) := by
  revert j; decide +kernel

theorem storesH (m : Memref sig .tc .vmem S32x7168 .bf16) (hm : m.IsWhole) (j : Fin 56) : (m.access (rB j)).Stores Finset.univ :=
  View.stores_vmem h_S32x128 (hm.storeExact_slice rfl _ (packedBf16 j)) (fun _ => rfl)
theorem storesMask (m : Memref sig .tc .vmem S32x7168 .i8) (hm : m.IsWhole) (j : Fin 56) : (m.access (rB j)).Stores Finset.univ :=
  View.stores_vmem h_S32x128 (hm.storeExact_slice rfl _ (packedI8 j)) (fun _ => rfl)
theorem storesCodes (m : Memref sig .tc .vmem S32x7168 .fp8e4m3) (hm : m.IsWhole) (j : Fin 56) : (m.access (rB j)).Stores Finset.univ :=
  View.stores_vmem h_S32x128 (hm.storeExact_slice rfl _ (packedFp8 j)) (fun _ => rfl)

/-- The offset of the block's row among the words of tile `j`. -/
abbrev woff (i : grid0.Coords) (j : Fin 56) : Fin 2 → ℕ := k0_off1 i (BitVec.ofNat 32 (8 * j.val))
theorem woff_inb (i : grid0.Coords) (j : Fin 56) : ∀ a, woff i j a + S1x128.size a ≤ S448x128.size a := k0_off1_inb i j

def colOf (arg0 : BitVec 32) : BitVec 32 :=
  let v4306 : BitVec 1 := Scalar.cmpi .eq 4#32 0#32
  let v4307 : BitVec 32 := Scalar.select v4306 1#32 4#32
  let v4308 : BitVec 32 := Scalar.remsi (tileId arg0) v4307
  let v4309 : BitVec 1 := Scalar.cmpi .ne v4308 0#32
  let v4310 : BitVec 1 := Scalar.cmpi .slt v4308 0#32
  let v4311 : BitVec 1 := Scalar.cmpi .slt v4307 0#32
  let v4312 : BitVec 1 := Scalar.xori v4310 v4311
  let v4313 : BitVec 1 := Scalar.andi v4312 v4309
  let v4314 : BitVec 32 := Scalar.addi v4308 v4307
  let v4315 : BitVec 32 := Scalar.select v4313 v4314 v4308
  Scalar.muli v4315 128#32

/-- The end of the body's second half: the scales of the block, put into their places. -/
def tailA (i : grid0.Coords) (arg8 : Memref sig .tc .vmem S2x512 .f32) (m rs v : FVec F S32x128 .f32) :
    (Σ' (v4257 : IVec S32x128 32), IVec S32x128 1) → Prog (TpuEff nD τ sig (Elt F) Λ₀ .tc)
      (Σ' (v2361 : FVec F S32x128 .f32) (v2875 : FVec F S32x128 .f32) (v4271 : IVec S32x128 1) (v4317 : BitVec 32) (v4339 : IVec S2x128 1), FVec F S32x128 .f32) :=
  fun x =>
  .op (.load arg8 (Rect.unit (s := S2x512) (k0_off2 i) S2x128.size (k0_off2_inb i)).toLoadRect (View.loadsAt_vmem h_S2x128)) fun o =>
  .op (.load arg8 (Rect.unit (s := S2x512) (k0_off2 i) S2x128.size (k0_off2_inb i)).toLoadRect (View.loadsAt_vmem h_S2x128)) fun _ =>
  .op (.store arg8 (Rect.unit (s := S2x512) (k0_off2 i) S2x128.size (k0_off2_inb i)) (k0_pay680 (a0 i) (expOf v) x.1 x.2 (batchOf (a0 i)) o) Finset.univ (View.stores_vmem_bits_univ h_S2x128 rfl) (.inl rfl)) fun _ =>
  .ret ⟨m, rs, x.2, colOf (a0 i), k0_pay679 (a0 i) x.1 (batchOf (a0 i)), k0_pay681⟩

/-- The end of the body: the means and the reciprocal roots of the block, put into their places. -/
def tailB (i : grid0.Coords) (arg10 arg11 : Memref sig .tc .vmem S2x512 .f32) :
    (Σ' (v2361 : FVec F S32x128 .f32) (v2875 : FVec F S32x128 .f32) (v4271 : IVec S32x128 1) (v4317 : BitVec 32) (v4339 : IVec S2x128 1), FVec F S32x128 .f32) →
    Prog (TpuEff nD τ sig (Elt F) Λ₀ .tc) PUnit :=
  fun x =>
  .op (.load arg10 (Rect.unit (s := S2x512) (k0_off2 i) S2x128.size (k0_off2_inb i)).toLoadRect (View.loadsAt_vmem h_S2x128)) fun o =>
  .op (.load arg10 (Rect.unit (s := S2x512) (k0_off2 i) S2x128.size (k0_off2_inb i)).toLoadRect (View.loadsAt_vmem h_S2x128)) fun _ =>
  .op (.store arg10 (Rect.unit (s := S2x512) (k0_off2 i) S2x128.size (k0_off2_inb i)) (k0_pay1 x.1 x.2.2.1 x.2.2.2.2.1 x.2.2.2.2.2 o) Finset.univ (View.stores_vmem_bits_univ h_S2x128 rfl) (.inl rfl)) fun _ =>
  .op (.load arg11 (Rect.unit (s := S2x512) (k0_off2 i) S2x128.size (k0_off2_inb i)).toLoadRect (View.loadsAt_vmem h_S2x128)) fun o =>
  .op (.load arg11 (Rect.unit (s := S2x512) (k0_off2 i) S2x128.size (k0_off2_inb i)).toLoadRect (View.loadsAt_vmem h_S2x128)) fun _ =>
  .op (.store arg11 (Rect.unit (s := S2x512) (k0_off2 i) S2x128.size (k0_off2_inb i)) (k0_pay2 x.2.1 x.2.2.1 x.2.2.2.2.1 o) Finset.univ (View.stores_vmem_bits_univ h_S2x128 rfl) (.inl rfl)) fun _ =>
  .ret ⟨⟩

/-- The body, its loops folded. -/
def folded (i : grid0.Coords) (arg1 : Memref sig .tc .vmem S32x7168 .bf16) (harg1 : arg1.IsWhole) (arg2 : Memref sig .tc .vmem S32x7168 .bf16) (harg2 : arg2.IsWhole) (arg3 : Memref sig .tc .vmem S1x7168 .f32) (harg3 : arg3.IsWhole) (arg4 : Memref sig .tc .vmem S32x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S32x7168 .fp8e4m3) (harg7 : arg7.IsWhole) (arg8 : Memref sig .tc .vmem S2x512 .f32) (harg8 : arg8.IsWhole) (arg9 : Memref sig .tc .vmem S32x7168 .i8) (harg9 : arg9.IsWhole) (arg10 : Memref sig .tc .vmem S2x512 .f32) (harg10 : arg10.IsWhole) (arg11 : Memref sig .tc .vmem S2x512 .f32) (harg11 : arg11.IsWhole) (arg12 : Memref sig .tc .vmem S32x7168 .bf16) (harg12 : arg12.IsWhole) (arg13 : Memref sig .tc .vmem S32x7168 .f32) (harg13 : arg13.IsWhole) (arg14 : Memref sig .tc .vmem S448x128 .i32) (harg14 : arg14.IsWhole) : Prog (TpuEff nD τ sig (Elt F) Λ₀ .tc) PUnit :=
  loop (tile1 pays arg1 arg2 arg12 arg3 arg4 arg14 (storesH arg12 harg12) (woff i) (woff_inb i)) 56 (le_refl _) zero fun acc1 =>
  loop (tile2 pays arg12 arg13 (meanOf acc1)) 56 (le_refl _) zero fun acc2 =>
  loop (tile3 pays arg13 arg5 arg6 (rstdOf acc2)) 56 (le_refl _) zero fun acc3 =>
  loop (tile4 pays arg13 arg7 (storesCodes arg7 harg7) (invOf (vOf acc3))) 56 (le_refl _) () fun _ =>
  Prog.bind (Prog.bind
    (if _h : k0_cond1 i = 1#1 then
      loop (tile5 pays arg14 arg9 (storesMask arg9 harg9)) 56 (le_refl _) () fun _ => .ret ⟨iota1, k0_pay678 (a0 i) iota0⟩
    else .ret ⟨iota1, k0_pay678 (a0 i) iota0⟩)
    (tailA i arg8 (meanOf acc1) (rstdOf acc2) (vOf acc3))) (tailB i arg10 arg11)

set_option maxRecDepth 1000000 in
set_option maxHeartbeats 4000000 in
/-- The printed body is the folded one. -/
theorem eq_folded (i : grid0.Coords) (arg1 : Memref sig .tc .vmem S32x7168 .bf16) (harg1 : arg1.IsWhole) (arg2 : Memref sig .tc .vmem S32x7168 .bf16) (harg2 : arg2.IsWhole) (arg3 : Memref sig .tc .vmem S1x7168 .f32) (harg3 : arg3.IsWhole) (arg4 : Memref sig .tc .vmem S32x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S32x7168 .fp8e4m3) (harg7 : arg7.IsWhole) (arg8 : Memref sig .tc .vmem S2x512 .f32) (harg8 : arg8.IsWhole) (arg9 : Memref sig .tc .vmem S32x7168 .i8) (harg9 : arg9.IsWhole) (arg10 : Memref sig .tc .vmem S2x512 .f32) (harg10 : arg10.IsWhole) (arg11 : Memref sig .tc .vmem S2x512 .f32) (harg11 : arg11.IsWhole) (arg12 : Memref sig .tc .vmem S32x7168 .bf16) (harg12 : arg12.IsWhole) (arg13 : Memref sig .tc .vmem S32x7168 .f32) (harg13 : arg13.IsWhole) (arg14 : Memref sig .tc .vmem S448x128 .i32) (harg14 : arg14.IsWhole) :
    cc0_bda_ln_fp8_skel (F := F) i arg1 harg1 arg2 harg2 arg3 harg3 arg4 harg4 arg5 harg5 arg6 harg6 arg7 harg7 arg8 harg8 arg9 harg9 arg10 harg10 arg11 harg11 arg12 harg12 arg13 harg13 arg14 harg14 = folded (F := F) i arg1 harg1 arg2 harg2 arg3 harg3 arg4 harg4 arg5 harg5 arg6 harg6 arg7 harg7 arg8 harg8 arg9 harg9 arg10 harg10 arg11 harg11 arg12 harg12 arg13 harg13 arg14 harg14 := by
  exact rfl

end Cert.Kernel.Body

end
-- ==== Proof.TileWp.lean ====
/- What the five loops of the body do to the buffers they touch: each loop's weakest precondition, every buffer
   held through its memref at stated contents. Generic in the signature and in the float type. -/
module

public import proofs.«01_k».proof.Proof.Fold
public import Idealize.ShloMosaic.Lib.Pipeline.FrameBody
public import Idealize.ShloMosaic.Lib.Tactic

@[expose] public section

noncomputable section

namespace Cert.Fold

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Contents -/

section Contents

variable {α σ : Type}

/-- Tile `j` of a block's contents. -/
abbrev tileB (X : SB.Idx → α) (j : Fin 56) : ST.Idx → α := VecWindow.window (s := SB) X ![0, 128 * j.val] ST.size (inbB j)
/-- Tile `j` of a row's contents. -/
abbrev tileR (X : SR.Idx → α) (j : Fin 56) : SRT.Idx → α := VecWindow.window (s := SR) X ![0, 128 * j.val] SRT.size (inbR j)
/-- The words of tile `j`. -/
abbrev tileW (X : SW.Idx → α) (j : Fin 56) : SWT.Idx → α := VecWindow.window (s := SW) X ![8 * j.val, 0] SWT.size (inbW j)

theorem tileB_apply (X : SB.Idx → α) (j : Fin 56) (y : ST.Idx) :
    tileB X j y = X (fun a => ⟨(![0, 128 * j.val] : Fin 2 → ℕ) a + 1 * (y a).val, ((rB j).emb y a).isLt⟩) := rfl

/-- The block whose tiles are `V`. -/
def whole (V : Fin 56 → ST.Idx → α) : SB.Idx → α := fun i =>
  V ⟨(i 1).val / 128, by have : (i 1).val < 7168 := (i 1).isLt; omega⟩
    (fun a => match a with
      | ⟨0, _⟩ => (⟨(i 0).val, (i 0).isLt⟩ : Fin 32)
      | ⟨1, _⟩ => (⟨(i 1).val % 128, Nat.mod_lt _ (by decide)⟩ : Fin 128))

theorem eq_whole (X : SB.Idx → α) (V : Fin 56 → ST.Idx → α) (h : ∀ j, tileB X j = V j) : X = whole V := by
  funext i
  unfold whole
  rw [← h, tileB_apply]
  congr 1
  funext a
  apply Fin.ext
  match a with
  | ⟨0, _⟩ => show (i 0).val = 0 + 1 * (i 0).val; omega
  | ⟨1, _⟩ => show (i 1).val = 128 * ((i 1).val / 128) + 1 * ((i 1).val % 128); omega

theorem tileB_whole (V : Fin 56 → ST.Idx → α) (j : Fin 56) : tileB (whole V) j = V j := by
  funext y
  have h0 : (y 0).val < 32 := (y 0).isLt
  have h1 : (y 1).val < 128 := (y 1).isLt
  rw [tileB_apply]
  unfold whole
  congr 1
  · apply Fin.ext
    show (128 * j.val + 1 * (y 1).val) / 128 = j.val; omega
  · funext a
    apply Fin.ext
    match a with
    | ⟨0, _⟩ => show 0 + 1 * (y 0).val = (y 0).val; omega
    | ⟨1, _⟩ => show (128 * j.val + 1 * (y 1).val) % 128 = (y 1).val; omega

/-- The buffer after a put over tile `j` holds the payload there, -/
theorem tileB_put_same (X : SB.Idx → α) (j : Fin 56) (w : ST.Idx → α) :
    tileB (VecWindow.put (s := SB) X ![0, 128 * j.val] ST.size w) j = w :=
  VecWindow.window_put_same _ _ _ _ _
/-- and at every other tile what it held. -/
theorem tileB_put_ne (X : SB.Idx → α) (j j' : Fin 56) (w : ST.Idx → α) (h : j ≠ j') :
    tileB (VecWindow.put (s := SB) X ![0, 128 * j.val] ST.size w) j' = tileB X j' :=
  VecWindow.window_put_of_disjoint (s := SB) _ _ _ _ _ _ _ (1 : Fin 2) (by
    have h' : j.val ≠ j'.val := fun e => h (Fin.ext e)
    show 128 * j'.val + 128 ≤ 128 * j.val ∨ 128 * j.val + 128 ≤ 128 * j'.val
    omega)

/-- Row `s` of every tile's eight rows overwritten by `V`, for the tiles below `n`. -/
def wordsUpTo (n s : ℕ) (W : SW.Idx → α) (V : Fin 56 → SRT.Idx → α) : SW.Idx → α := fun i =>
  if (i 0).val % 8 = s ∧ (i 0).val / 8 < n then
    V ⟨(i 0).val / 8, by have : (i 0).val < 448 := (i 0).isLt; omega⟩
      (fun a => match a with
        | ⟨0, _⟩ => (⟨0, by decide⟩ : Fin 1)
        | ⟨1, _⟩ => (⟨(i 1).val, (i 1).isLt⟩ : Fin 128))
  else W i

theorem wordsUpTo_zero (s : ℕ) (W : SW.Idx → α) (V : Fin 56 → SRT.Idx → α) : wordsUpTo 0 s W V = W := by
  funext i; unfold wordsUpTo; rw [if_neg (by omega)]

theorem put_wordsUpTo (s : ℕ) (hs : s < 8) (W : SW.Idx → α) (V : Fin 56 → SRT.Idx → α) (j : Fin 56) (off : Fin 2 → ℕ)
    (hoff : off = ![8 * j.val + s, 0]) :
    VecWindow.put (s := SW) (wordsUpTo j.val s W V) off SRT.size (V j) = wordsUpTo (j.val + 1) s W V := by
  subst hoff
  funext i
  have h0 : (i 0).val < 448 := (i 0).isLt
  have h1 : (i 1).val < 128 := (i 1).isLt
  unfold VecWindow.put
  by_cases h : ∀ a, (![8 * j.val + s, 0] : Fin 2 → ℕ) a ≤ (i a).val ∧ (i a).val < (![8 * j.val + s, 0] : Fin 2 → ℕ) a + SRT.size a
  · rw [dif_pos h]
    have ha : 8 * j.val + s ≤ (i 0).val ∧ (i 0).val < 8 * j.val + s + 1 := h 0
    have e : (i 0).val = 8 * j.val + s := by omega
    unfold wordsUpTo
    rw [if_pos (by constructor <;> omega)]
    have ej : (⟨(i 0).val / 8, by omega⟩ : Fin 56) = j := Fin.ext (by show (i 0).val / 8 = j.val; omega)
    rw [ej]
    congr 1
    funext a
    apply Fin.ext
    match a with
    | ⟨0, _⟩ => show (i 0).val - (8 * j.val + s) = 0; omega
    | ⟨1, _⟩ => show (i 1).val - 0 = (i 1).val; omega
  · rw [dif_neg h]
    have hn : ¬ (i 0).val = 8 * j.val + s := by
      intro e
      apply h
      intro a
      match a with
      | ⟨0, _⟩ => show 8 * j.val + s ≤ (i 0).val ∧ (i 0).val < 8 * j.val + s + 1; omega
      | ⟨1, _⟩ => show 0 ≤ (i 1).val ∧ (i 1).val < 0 + 128; omega
    unfold wordsUpTo
    by_cases hc : (i 0).val % 8 = s ∧ (i 0).val / 8 < j.val
    · rw [if_pos hc, if_pos (by omega)]
    · rw [if_neg hc, if_neg (by omega)]

/-- `g` at tiles 0 to `n - 1` in order. -/
def accum (g : Fin 56 → σ → σ) (s0 : σ) : ℕ → σ
  | 0 => s0
  | n + 1 => if h : n < 56 then g ⟨n, h⟩ (accum g s0 n) else accum g s0 n

theorem accum_succ (g : Fin 56 → σ → σ) (s0 : σ) (j : Fin 56) : accum g s0 (j.val + 1) = g j (accum g s0 j.val) := by
  show (if h : j.val < 56 then _ else _) = _
  rw [dif_pos j.isLt]

end Contents

/-! ## Steps -/

section Wp

variable {nD : ℕ} {τ : Topo} {sig : RefSig} {Λ : Labels} {F : FTy → Type} [∀ e, Nonempty (Elt F e)]
variable {Ix : Type} [DecidableEq Ix] {Name : Type} [DecidableEq Name] {U : Type} [URA U] {Lvl : Type} [Preorder Lvl]

local notation "𝕄" => MT nD τ sig Ix (Elt F) Name U Lvl

variable {defs : Defs nD τ sig (Elt F) Λ} (𝒱 : Variants) (c : Dev nD) (bd : Option 𝒱.V) (E : Set Name)
variable {α : Type} {Q : α → sProp (MT nD τ sig Ix (Elt F) Name U Lvl)}

/-- A load of a window of a memref held at `X` yields the window of `X`. -/
theorem wp_load_owns {cs : CoreSpace} {s : Shape} {e : EltTy} {m : Memref sig .tc cs s e} {off size : Fin s.rank → ℕ}
    {inb : ∀ a, off a + size a ≤ s.size a} {hl : m.view.LoadsAt (Rect.unit off size inb).toLoadRect}
    {k : ((Rect.unit off size inb).shape.Idx → Elt F e) → Prog (TpuEff nD τ sig (Elt F) Λ .tc) α}
    {q : PosShare TreeShare} {X : s.Idx → Elt F e} :
    (owns (c : Thread nD τ) m q X : sProp 𝕄)
      ⊢ iprop((owns (c : Thread nD τ) m q X -∗ wp frame (wpE defs 𝒱 (c : Thread nD τ) bd) E (k (VecWindow.window X off size inb)) Q)
        -∗ wp frame (wpE defs 𝒱 (c : Thread nD τ) bd) E (.op (.load m (Rect.unit off size inb).toLoadRect hl) k) Q) := by
  unfold owns
  iintro ⟨%f, %hf, H⟩ Hk
  iapply (wp_load 𝒱 (c : Thread nD τ) bd E (m := m) (View.setOn_subset_set _ _)) $$ H
  iintro H
  rw [View.readAt_unit m.view f inb rfl inb, hf]
  iapply Hk
  iexists f
  isplitr
  · ipureintro; exact hf
  · iexact H

/-- A store over a window of a memref held at `X` leaves it at `X` with the payload put there. -/
theorem wp_store_owns {cs : CoreSpace} {s : Shape} {e : EltTy} {m : Memref sig .tc cs s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1}
    {k : PUnit → Prog (TpuEff nD τ sig (Elt F) Λ .tc) α} {X : s.Idx → Elt F e} :
    (owns (c : Thread nD τ) m fullShare X : sProp 𝕄)
      ⊢ iprop((owns (c : Thread nD τ) m fullShare (VecWindow.put X off size w) -∗ wp frame (wpE defs 𝒱 (c : Thread nD τ) bd) E (k ⟨⟩) Q)
        -∗ wp frame (wpE defs 𝒱 (c : Thread nD τ) bd) E (.op (.store m (Rect.unit off size inb) w Finset.univ hx hm) k) Q) := by
  unfold owns
  iintro ⟨%f, %hf, H⟩ Hk
  iapply (wp_store_writes₀ 𝒱 (c : Thread nD τ) bd E (m := m) (View.set_slice_subset _ _)) $$ H
  iintro H
  iapply Hk
  iexists _
  isplitr
  swap
  · iexact H
  · ipureintro
    rw [View.read_writes_cons_put m.view f inb w [] rfl, View.writes_nil, hf]

/-- A loop, by an invariant on the number of tiles done and the carried value. -/
theorem wp_loop {σ : Type} (f : Fin 56 → σ → (σ → Pr nD τ sig F Λ α) → Pr nD τ sig F Λ α) (I : ℕ → σ → sProp 𝕄)
    (hstep : ∀ (j : Fin 56) (s : σ) (k : σ → Pr nD τ sig F Λ α),
      iprop(I j.val s ∗ (∀ s', I (j.val + 1) s' -∗ wp frame (wpE defs 𝒱 (c : Thread nD τ) bd) E (k s') Q))
        ⊢ wp frame (wpE defs 𝒱 (c : Thread nD τ) bd) E (f j s k) Q) (K : σ → Pr nD τ sig F Λ α) :
    ∀ (m : ℕ) (h : m ≤ 56) (s : σ),
      iprop(I (56 - m) s ∗ (∀ s', I 56 s' -∗ wp frame (wpE defs 𝒱 (c : Thread nD τ) bd) E (K s') Q))
        ⊢ wp frame (wpE defs 𝒱 (c : Thread nD τ) bd) E (loop f m h s K) Q := by
  intro m
  induction m with
  | zero =>
    intro h s
    show _ ⊢ wp frame (wpE defs 𝒱 (c : Thread nD τ) bd) E (K s) Q
    iintro ⟨HI, Hk⟩
    iapply Hk
    iexact HI
  | succ m ih =>
    intro h s
    have e1 : 56 - (m + 1) = 55 - m := by omega
    have e2 : 55 - m + 1 = 56 - m := by omega
    show _ ⊢ wp frame (wpE defs 𝒱 (c : Thread nD τ) bd) E
      (f ⟨55 - m, Nat.lt_of_le_of_lt (Nat.sub_le 55 m) (by decide)⟩ s fun s' => loop f m (Nat.le_of_succ_le h) s' K) Q
    rw [e1]
    iintro ⟨HI, Hk⟩
    iapply (hstep ⟨55 - m, Nat.lt_of_le_of_lt (Nat.sub_le 55 m) (by decide)⟩ s _)
    isplitl [HI]
    · iexact HI
    · iintro %s' HI
      iapply (ih (Nat.le_of_succ_le h) s')
      isplitl [HI]
      · rw [← e2]; iexact HI
      · iexact Hk

end Wp

end Cert.Fold

end
-- ==== Proof.LoopWp.lean ====
/- The weakest preconditions of the body's five loops: what each leaves in the buffers it stores to, and the value
   it carries. -/
module

public import proofs.«01_k».proof.Proof.TileWp

@[expose] public section

noncomputable section

namespace Cert.Fold

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## What the tiles compute -/

section Tiles

variable {F : FTy → Type} (p : Pays F)

/-- Tile `j` of the residual sum. -/
def hTile (R : SB.Idx → Elt F .i32) (A X : SB.Idx → Elt F .bf16) (B : SR.Idx → Elt F .f32) (j : Fin 56) : ST.Idx → Elt F .bf16 :=
  p.h (tileB R j) (tileB A j) (tileR B j) (tileB X j)
/-- The packed keep bits of tile `j`. -/
def wordTile (R : SB.Idx → Elt F .i32) (j : Fin 56) : SRT.Idx → Elt F .i32 := p.word (tileB R j)
/-- The running sum of the residual sum. -/
def acc1 (h : Fin 56 → ST.Idx → Elt F .bf16) (z : FVec F ST .f32) : ℕ → FVec F ST .f32 := accum (fun j a => p.acc1 a (h j)) z
/-- Tile `j` of the centred values. -/
def cTile (h : Fin 56 → ST.Idx → Elt F .bf16) (mean : FVec F ST .f32) (j : Fin 56) : FVec F ST .f32 := p.c mean (h j)
/-- The running sum of their squares. -/
def acc2 (h : Fin 56 → ST.Idx → Elt F .bf16) (mean z : FVec F ST .f32) : ℕ → FVec F ST .f32 :=
  accum (fun j a => p.acc2 a (cTile p h mean j)) z
/-- Tile `j` of the normalised values, from the centred ones. -/
def yTile (f : Fin 56 → ST.Idx → Elt F .f32) (G B : SR.Idx → Elt F .f32) (rstd : FVec F ST .f32) (j : Fin 56) : FVec F ST .f32 :=
  p.y rstd (f j) (tileR G j) (tileR B j)
/-- The running maximum of their magnitudes. -/
def acc3 (f : Fin 56 → ST.Idx → Elt F .f32) (G B : SR.Idx → Elt F .f32) (rstd z : FVec F ST .f32) : ℕ → FVec F ST .f32 :=
  accum (fun j a => p.acc3 a (yTile p f G B rstd j)) z

end Tiles

section Wp

variable {nD : ℕ} {τ : Topo} {sig : RefSig} {Λ : Labels} {F : FTy → Type} [∀ e, Nonempty (Elt F e)]
variable {Ix : Type} [DecidableEq Ix] {Name : Type} [DecidableEq Name] {U : Type} [URA U] {Lvl : Type} [Preorder Lvl]
variable {defs : Defs nD τ sig (Elt F) Λ} (𝒱 : Variants) (c : Dev nD) (bd : Option 𝒱.V) (E : Set Name)
variable {α : Type} {Q : α → sProp (MT nD τ sig Ix (Elt F) Name U Lvl)} (p : Pays F)

local notation "𝕄" => MT nD τ sig Ix (Elt F) Name U Lvl

theorem wp_loop1 {x a h : Memref sig .tc .vmem SB .bf16} {bias : Memref sig .tc .vmem SR .f32}
    {rand : Memref sig .tc .vmem SB .i32} {words : Memref sig .tc .vmem SW .i32}
    {hh : ∀ j, (h.access (rB j)).Stores Finset.univ}
    {woff : Fin 56 → Fin 2 → ℕ} {hw : ∀ j a, woff j a + SRT.size a ≤ SW.size a}
    (s : ℕ) (hs : s < 8) (hoff : ∀ j, woff j = ![8 * j.val + s, 0])
    (R : SB.Idx → Elt F .i32) (A X H : SB.Idx → Elt F .bf16) (B : SR.Idx → Elt F .f32) (W : SW.Idx → Elt F .i32)
    (z : FVec F ST .f32) (K : FVec F ST .f32 → Pr nD τ sig F Λ α) :
    iprop((owns (c : Thread nD τ) x fullShare X : sProp 𝕄) ∗ owns (c : Thread nD τ) a fullShare A
        ∗ owns (c : Thread nD τ) bias fullShare B ∗ owns (c : Thread nD τ) rand fullShare R
        ∗ owns (c : Thread nD τ) h fullShare H ∗ owns (c : Thread nD τ) words fullShare W
        ∗ (iprop(owns (c : Thread nD τ) x fullShare X ∗ owns (c : Thread nD τ) a fullShare A
            ∗ owns (c : Thread nD τ) bias fullShare B ∗ owns (c : Thread nD τ) rand fullShare R
            ∗ owns (c : Thread nD τ) h fullShare (whole (hTile p R A X B))
            ∗ owns (c : Thread nD τ) words fullShare (wordsUpTo 56 s W (wordTile p R)))
          -∗ wp frame (wpE defs 𝒱 (c : Thread nD τ) bd) E (K (acc1 p (hTile p R A X B) z 56)) Q))
      ⊢ wp frame (wpE defs 𝒱 (c : Thread nD τ) bd) E
          (loop (tile1 p x a h bias rand words hh woff hw) 56 (le_refl _) z K) Q := by
  iintro ⟨Hx, Ha, Hb, Hr, Hh, Hw, Hk⟩
  iapply (wp_loop 𝒱 c bd E (tile1 p x a h bias rand words hh woff hw)
    (fun n acc => iprop(⌜acc = acc1 p (hTile p R A X B) z n⌝ ∗ owns (c : Thread nD τ) x fullShare X ∗ owns (c : Thread nD τ) a fullShare A
        ∗ owns (c : Thread nD τ) bias fullShare B ∗ owns (c : Thread nD τ) rand fullShare R
        ∗ (∃ H', ⌜∀ j : Fin 56, j.val < n → tileB H' j = hTile p R A X B j⌝ ∗ owns (c : Thread nD τ) h fullShare H')
        ∗ owns (c : Thread nD τ) words fullShare (wordsUpTo n s W (wordTile p R)))) ?_ K 56 (le_refl _) z)
  · intro j acc k
    unfold tile1
    iintro ⟨⟨%hacc, Hx, Ha, Hb, Hr, ⟨%H', %hH, Hh⟩, Hw⟩, Hk⟩
    iapply (wp_load_owns 𝒱 c bd E) $$ Hr; iintro Hr
    iapply (wp_load_owns 𝒱 c bd E) $$ Ha; iintro Ha
    iapply (wp_load_owns 𝒱 c bd E) $$ Hb; iintro Hb
    iapply (wp_load_owns 𝒱 c bd E) $$ Hx; iintro Hx
    iapply (wp_load_owns 𝒱 c bd E) $$ Hh; iintro Hh
    iapply (wp_store_owns 𝒱 c bd E) $$ Hh; iintro Hh
    iapply (wp_load_owns 𝒱 c bd E) $$ Hw; iintro Hw
    iapply (wp_store_owns 𝒱 c bd E) $$ Hw; iintro Hw
    iapply Hk
    isplitr
    · ipureintro
      rw [hacc]; exact (accum_succ (fun j a => p.acc1 a (hTile p R A X B j)) z j).symm
    isplitl [Hx]; · iexact Hx
    isplitl [Ha]; · iexact Ha
    isplitl [Hb]; · iexact Hb
    isplitl [Hr]; · iexact Hr
    isplitl [Hh]
    · iexists _
      isplitr
      swap
      · iexact Hh
      · ipureintro
        intro j' hj'
        by_cases e : j = j'
        · subst e; exact tileB_put_same _ _ _
        · exact (tileB_put_ne _ _ _ _ e).trans (hH j' (by have : j.val ≠ j'.val := fun h => e (Fin.ext h); omega))
    · rw [← put_wordsUpTo s hs W (wordTile p R) j (woff j) (hoff j)]
      iexact Hw
  · isplitl [Hx Ha Hb Hr Hh Hw]
    · isplitr
      · ipureintro; rfl
      isplitl [Hx]; · iexact Hx
      isplitl [Ha]; · iexact Ha
      isplitl [Hb]; · iexact Hb
      isplitl [Hr]; · iexact Hr
      isplitl [Hh]
      · iexists H
        isplitr
        · ipureintro; intro j hj; omega
        · iexact Hh
      · rw [Nat.sub_self, wordsUpTo_zero]; iexact Hw
    · iintro %acc ⟨%hacc, Hx, Ha, Hb, Hr, ⟨%H', %hH, Hh⟩, Hw⟩
      rw [hacc, eq_whole H' _ fun j => hH j j.isLt]
      iapply Hk
      isplitl [Hx]; · iexact Hx
      isplitl [Ha]; · iexact Ha
      isplitl [Hb]; · iexact Hb
      isplitl [Hr]; · iexact Hr
      isplitl [Hh]; · iexact Hh
      iexact Hw

theorem wp_loop2 {h : Memref sig .tc .vmem SB .bf16} {f : Memref sig .tc .vmem SB .f32} (mean : FVec F ST .f32)
    (hv : Fin 56 → ST.Idx → Elt F .bf16) (H : SB.Idx → Elt F .bf16) (hH : ∀ j, tileB H j = hv j) (f0 : SB.Idx → Elt F .f32)
    (z : FVec F ST .f32) (K : FVec F ST .f32 → Pr nD τ sig F Λ α) :
    iprop((owns (c : Thread nD τ) h fullShare H : sProp 𝕄) ∗ owns (c : Thread nD τ) f fullShare f0
        ∗ (iprop(owns (c : Thread nD τ) h fullShare H ∗ owns (c : Thread nD τ) f fullShare (whole fun j => p.st (cTile p hv mean j)))
          -∗ wp frame (wpE defs 𝒱 (c : Thread nD τ) bd) E (K (acc2 p hv mean z 56)) Q))
      ⊢ wp frame (wpE defs 𝒱 (c : Thread nD τ) bd) E (loop (tile2 p h f mean) 56 (le_refl _) z K) Q := by
  iintro ⟨Hh, Hf, Hk⟩
  iapply (wp_loop 𝒱 c bd E (tile2 p h f mean)
    (fun n acc => iprop(⌜acc = acc2 p hv mean z n⌝ ∗ owns (c : Thread nD τ) h fullShare H
        ∗ (∃ F', ⌜∀ j : Fin 56, j.val < n → tileB F' j = p.st (cTile p hv mean j)⌝ ∗ owns (c : Thread nD τ) f fullShare F'))) ?_ K 56 (le_refl _) z)
  · intro j acc k
    unfold tile2
    iintro ⟨⟨%hacc, Hh, ⟨%F', %hF, Hf⟩⟩, Hk⟩
    iapply (wp_load_owns 𝒱 c bd E) $$ Hh; iintro Hh
    iapply (wp_load_owns 𝒱 c bd E) $$ Hf; iintro Hf
    iapply (wp_store_owns 𝒱 c bd E) $$ Hf; iintro Hf
    have e0 : p.c mean (tileB H j) = cTile p hv mean j := by rw [hH j]; rfl
    iapply Hk
    isplitr
    · ipureintro
      show p.acc2 acc (p.c mean (tileB H j)) = _
      rw [e0, hacc]; exact (accum_succ (fun j a => p.acc2 a (cTile p hv mean j)) z j).symm
    isplitl [Hh]; · iexact Hh
    iexists _
    isplitr
    swap
    · iexact Hf
    · ipureintro
      intro j' hj'
      by_cases e : j = j'
      · subst e; exact (tileB_put_same _ _ _).trans (congrArg p.st e0)
      · exact (tileB_put_ne _ _ _ _ e).trans (hF j' (by have : j.val ≠ j'.val := fun h => e (Fin.ext h); omega))
  · isplitl [Hh Hf]
    · isplitr
      · ipureintro; rfl
      isplitl [Hh]; · iexact Hh
      iexists f0
      isplitr
      · ipureintro; intro j hj; omega
      · iexact Hf
    · iintro %acc ⟨%hacc, Hh, ⟨%F', %hF, Hf⟩⟩
      rw [hacc, eq_whole F' _ fun j => hF j j.isLt]
      iapply Hk
      isplitl [Hh]; · iexact Hh
      iexact Hf

theorem wp_loop3 {f : Memref sig .tc .vmem SB .f32} {gamma beta : Memref sig .tc .vmem SR .f32} (rstd : FVec F ST .f32)
    (fv : Fin 56 → ST.Idx → Elt F .f32) (f0 : SB.Idx → Elt F .f32) (hf0 : ∀ j, tileB f0 j = fv j) (G B : SR.Idx → Elt F .f32)
    (z : FVec F ST .f32) (K : FVec F ST .f32 → Pr nD τ sig F Λ α) :
    iprop((owns (c : Thread nD τ) f fullShare f0 : sProp 𝕄) ∗ owns (c : Thread nD τ) gamma fullShare G ∗ owns (c : Thread nD τ) beta fullShare B
        ∗ (iprop(owns (c : Thread nD τ) f fullShare (whole fun j => p.st (yTile p fv G B rstd j))
            ∗ owns (c : Thread nD τ) gamma fullShare G ∗ owns (c : Thread nD τ) beta fullShare B)
          -∗ wp frame (wpE defs 𝒱 (c : Thread nD τ) bd) E (K (acc3 p fv G B rstd z 56)) Q))
      ⊢ wp frame (wpE defs 𝒱 (c : Thread nD τ) bd) E (loop (tile3 p f gamma beta rstd) 56 (le_refl _) z K) Q := by
  iintro ⟨Hf, Hg, Hb, Hk⟩
  iapply (wp_loop 𝒱 c bd E (tile3 p f gamma beta rstd)
    (fun n acc => iprop(⌜acc = acc3 p fv G B rstd z n⌝ ∗ owns (c : Thread nD τ) gamma fullShare G ∗ owns (c : Thread nD τ) beta fullShare B
        ∗ (∃ F', ⌜(∀ j : Fin 56, j.val < n → tileB F' j = p.st (yTile p fv G B rstd j)) ∧ ∀ j : Fin 56, n ≤ j.val → tileB F' j = fv j⌝
            ∗ owns (c : Thread nD τ) f fullShare F'))) ?_ K 56 (le_refl _) z)
  · intro j acc k
    unfold tile3
    iintro ⟨⟨%hacc, Hg, Hb, ⟨%F', %hF, Hf⟩⟩, Hk⟩
    iapply (wp_load_owns 𝒱 c bd E) $$ Hf; iintro Hf
    iapply (wp_load_owns 𝒱 c bd E) $$ Hg; iintro Hg
    iapply (wp_load_owns 𝒱 c bd E) $$ Hb; iintro Hb
    iapply (wp_load_owns 𝒱 c bd E) $$ Hf; iintro Hf
    iapply (wp_store_owns 𝒱 c bd E) $$ Hf; iintro Hf
    have e0 : p.y rstd (tileB F' j) (tileR G j) (tileR B j) = yTile p fv G B rstd j := by rw [hF.2 j (le_refl _)]; rfl
    iapply Hk
    isplitr
    · ipureintro
      show p.acc3 acc (p.y rstd (tileB F' j) (tileR G j) (tileR B j)) = _
      rw [e0, hacc]; exact (accum_succ (fun j a => p.acc3 a (yTile p fv G B rstd j)) z j).symm
    isplitl [Hg]; · iexact Hg
    isplitl [Hb]; · iexact Hb
    iexists _
    isplitr
    swap
    · iexact Hf
    · ipureintro
      refine ⟨fun j' hj' => ?_, fun j' hj' => ?_⟩
      · by_cases e : j = j'
        · subst e; exact (tileB_put_same _ _ _).trans (congrArg p.st e0)
        · exact (tileB_put_ne _ _ _ _ e).trans (hF.1 j' (by have : j.val ≠ j'.val := fun h => e (Fin.ext h); omega))
      · have e : j ≠ j' := fun e => by subst e; omega
        exact (tileB_put_ne _ _ _ _ e).trans (hF.2 j' (by omega))
  · isplitl [Hg Hb Hf]
    · isplitr
      · ipureintro; rfl
      isplitl [Hg]; · iexact Hg
      isplitl [Hb]; · iexact Hb
      iexists f0
      isplitr
      · ipureintro; exact ⟨fun j hj => by omega, fun j _ => hf0 j⟩
      · iexact Hf
    · iintro %acc ⟨%hacc, Hg, Hb, ⟨%F', %hF, Hf⟩⟩
      rw [hacc, eq_whole F' _ fun j => hF.1 j j.isLt]
      iapply Hk
      isplitl [Hf]; · iexact Hf
      isplitl [Hg]; · iexact Hg
      iexact Hb

theorem wp_loop4 {f : Memref sig .tc .vmem SB .f32} {codes : Memref sig .tc .vmem SB .fp8e4m3}
    {hc : ∀ j, (codes.access (rB j)).Stores Finset.univ} (inv : FVec F ST .f32)
    (fv : Fin 56 → ST.Idx → Elt F .f32) (f0 : SB.Idx → Elt F .f32) (hf0 : ∀ j, tileB f0 j = fv j) (C : SB.Idx → Elt F .fp8e4m3)
    (K : Unit → Pr nD τ sig F Λ α) :
    iprop((owns (c : Thread nD τ) f fullShare f0 : sProp 𝕄) ∗ owns (c : Thread nD τ) codes fullShare C
        ∗ (iprop(owns (c : Thread nD τ) f fullShare f0 ∗ owns (c : Thread nD τ) codes fullShare (whole fun j => p.code inv (fv j)))
          -∗ wp frame (wpE defs 𝒱 (c : Thread nD τ) bd) E (K ()) Q))
      ⊢ wp frame (wpE defs 𝒱 (c : Thread nD τ) bd) E (loop (tile4 p f codes hc inv) 56 (le_refl _) () K) Q := by
  iintro ⟨Hf, Hc, Hk⟩
  iapply (wp_loop 𝒱 c bd E (tile4 p f codes hc inv)
    (fun n _ => iprop(owns (c : Thread nD τ) f fullShare f0
        ∗ (∃ C', ⌜∀ j : Fin 56, j.val < n → tileB C' j = p.code inv (fv j)⌝ ∗ owns (c : Thread nD τ) codes fullShare C'))) ?_ K 56 (le_refl _) ())
  · intro j acc k
    unfold tile4
    iintro ⟨⟨Hf, ⟨%C', %hC, Hc⟩⟩, Hk⟩
    iapply (wp_load_owns 𝒱 c bd E) $$ Hf; iintro Hf
    iapply (wp_load_owns 𝒱 c bd E) $$ Hc; iintro Hc
    iapply (wp_store_owns 𝒱 c bd E) $$ Hc; iintro Hc
    iapply Hk
    isplitl [Hf]; · iexact Hf
    iexists _
    isplitr
    swap
    · iexact Hc
    · ipureintro
      intro j' hj'
      by_cases e : j = j'
      · subst e; exact (tileB_put_same _ _ _).trans (congrArg (p.code inv) (hf0 j))
      · exact (tileB_put_ne _ _ _ _ e).trans (hC j' (by have : j.val ≠ j'.val := fun h => e (Fin.ext h); omega))
  · isplitl [Hf Hc]
    · isplitl [Hf]; · iexact Hf
      iexists C
      isplitr
      · ipureintro; intro j hj; omega
      · iexact Hc
    · iintro %_ ⟨Hf, ⟨%C', %hC, Hc⟩⟩
      rw [eq_whole C' _ fun j => hC j j.isLt]
      iapply Hk
      isplitl [Hf]; · iexact Hf
      iexact Hc

theorem wp_loop5 {words : Memref sig .tc .vmem SW .i32} {mask : Memref sig .tc .vmem SB .i8}
    {hm : ∀ j, (mask.access (rB j)).Stores Finset.univ} (W : SW.Idx → Elt F .i32) (M : SB.Idx → Elt F .i8)
    (K : Unit → Pr nD τ sig F Λ α) :
    iprop((owns (c : Thread nD τ) words fullShare W : sProp 𝕄) ∗ owns (c : Thread nD τ) mask fullShare M
        ∗ (iprop(owns (c : Thread nD τ) words fullShare W ∗ owns (c : Thread nD τ) mask fullShare (whole fun j => p.mask (tileW W j)))
          -∗ wp frame (wpE defs 𝒱 (c : Thread nD τ) bd) E (K ()) Q))
      ⊢ wp frame (wpE defs 𝒱 (c : Thread nD τ) bd) E (loop (tile5 p words mask hm) 56 (le_refl _) () K) Q := by
  iintro ⟨Hw, Hm, Hk⟩
  iapply (wp_loop 𝒱 c bd E (tile5 p words mask hm)
    (fun n _ => iprop(owns (c : Thread nD τ) words fullShare W
        ∗ (∃ M', ⌜∀ j : Fin 56, j.val < n → tileB M' j = p.mask (tileW W j)⌝ ∗ owns (c : Thread nD τ) mask fullShare M'))) ?_ K 56 (le_refl _) ())
  · intro j acc k
    unfold tile5
    iintro ⟨⟨Hw, ⟨%M', %hM, Hm⟩⟩, Hk⟩
    iapply (wp_load_owns 𝒱 c bd E) $$ Hw; iintro Hw
    iapply (wp_load_owns 𝒱 c bd E) $$ Hm; iintro Hm
    iapply (wp_store_owns 𝒱 c bd E) $$ Hm; iintro Hm
    iapply Hk
    isplitl [Hw]; · iexact Hw
    iexists _
    isplitr
    swap
    · iexact Hm
    · ipureintro
      intro j' hj'
      by_cases e : j = j'
      · subst e; exact tileB_put_same _ _ _
      · exact (tileB_put_ne _ _ _ _ e).trans (hM j' (by have : j.val ≠ j'.val := fun h => e (Fin.ext h); omega))
  · isplitl [Hw Hm]
    · isplitl [Hw]; · iexact Hw
      iexists M
      isplitr
      · ipureintro; intro j hj; omega
      · iexact Hm
    · iintro %_ ⟨Hw, ⟨%M', %hM, Hm⟩⟩
      rw [eq_whole M' _ fun j => hM j j.isLt]
      iapply Hk
      isplitl [Hw]; · iexact Hw
      iexact Hm

end Wp

end Cert.Fold

end
-- ==== Proof.BodyP.lean ====
/- What one run of the body leaves in every buffer it is handed, for any contents of them. -/
module

public import proofs.«01_k».proof.Proof.FoldP
public import proofs.«01_k».proof.Proof.LoopWp
public import Idealize.ShloMosaic.Lib.Pipeline.Covers
public import proofs.«01_k».proof.Proof.Gen.Kernel.Launch

@[expose] public section

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Fold Cert.Kernel Cert.Kernel.Gen

variable {F : FTy → Type} [FloatOps F]

local notation "𝕄" => MT nD τ sig Unit (Elt F) ℕ (UR sig nD τ) ℕ

/-! ## The block's values -/

section Values

variable (X A : S32x7168.Idx → Elt F .bf16) (B : S1x7168.Idx → Elt F .f32) (R : S32x7168.Idx → Elt F .i32)
variable (G Be : S1x7168.Idx → Elt F .f32)

/-- The residual sum, tile by tile. -/
def hV : Fin 56 → S32x128.Idx → Elt F .bf16 := hTile pays R A X B
/-- The rows' means. -/
def meanV : FVec F S32x128 .f32 := meanOf (acc1 pays (hV X A B R) zero 56)
/-- The centred values. -/
def cV (j : Fin 56) : FVec F S32x128 .f32 := (pays (F := F)).st (cTile pays (hV X A B R) (meanV X A B R) j)
/-- The rows' reciprocal roots. -/
def rstdV : FVec F S32x128 .f32 := rstdOf (acc2 pays (hV X A B R) (meanV X A B R) zero 56)
/-- The normalised values. -/
def yV (j : Fin 56) : FVec F S32x128 .f32 := (pays (F := F)).st (yTile pays (cV X A B R) G Be (rstdV X A B R) j)
/-- The rows' largest magnitudes over the largest code. -/
def vV : FVec F S32x128 .f32 := vOf (acc3 pays (cV X A B R) G Be (rstdV X A B R) zero 56)
/-- The block's codes. -/
def codesV : S32x7168.Idx → Elt F .fp8e4m3 := whole fun j => (pays (F := F)).code (invOf (vV X A B R G Be)) (yV X A B R G Be j)
/-- The words after the block at place `s` of its eight. -/
def wordsV (s : ℕ) (W : S448x128.Idx → Elt F .i32) : S448x128.Idx → Elt F .i32 := wordsUpTo 56 s W (wordTile pays R)
/-- The block's columns of a per-token result, overwritten by what `line` makes of the old ones. -/
def putCols (i : grid0.Coords) (line : Vec F S2x128 .f32 → FVec F S2x128 .f32) (S : S2x512.Idx → Elt F .f32) : S2x512.Idx → Elt F .f32 :=
  VecWindow.put (s := S2x512) S (k0_off2 i) S2x128.size (line (VecWindow.window (s := S2x512) S (k0_off2 i) S2x128.size (k0_off2_inb i)))

end Values

/-- The block's place among its eight. -/
def place (i : grid0.Coords) : ℕ := (i 0).val % 8

theorem woff_eq : ∀ (i : grid0.Coords) (j : Fin 56), woff i j = ![8 * j.val + place i, 0] := by
  intro i
  have h : ∀ (t : Fin grid0.N) (j : Fin 56), woff (grid0.coords t) j = ![8 * j.val + place (grid0.coords t), 0] := by decide +kernel
  obtain ⟨t, rfl⟩ := grid0.coords_surjective i
  exact h t

theorem loop_bind {α β σ : Type} {Λ : Labels} (f : Fin 56 → σ → (σ → Pr nD τ sig F Λ α) → Pr nD τ sig F Λ α)
    (g : Fin 56 → σ → (σ → Pr nD τ sig F Λ β) → Pr nD τ sig F Λ β) (G : α → Pr nD τ sig F Λ β)
    (hf : ∀ j s k, Prog.bind (f j s k) G = g j s fun s' => Prog.bind (k s') G) (K : σ → Pr nD τ sig F Λ α) :
    ∀ (m : ℕ) (h : m ≤ 56) (s : σ), Prog.bind (loop f m h s K) G = loop g m h s fun s' => Prog.bind (K s') G := by
  intro m
  induction m with
  | zero => intro h s; rfl
  | succ m ih =>
    intro h s
    show Prog.bind (f _ s _) G = g _ s _
    rw [hf]
    congr 1
    funext s'
    exact ih _ s'

/-- The end of the body: the block's scales, means and reciprocal roots put into their places. -/
theorem tail_wp (𝒱 : Variants) (c : Dev nD) (bd : Option 𝒱.V) (E : Set ℕ) (i : grid0.Coords)
    (arg8 arg10 arg11 : Memref sig .tc .vmem S2x512 .f32) (m rs v : FVec F S32x128 .f32) (S Mn Rs : S2x512.Idx → Elt F .f32)
    (K : PUnit → sProp 𝕄) :
    iprop((owns (c : Thread nD τ) arg8 fullShare S : sProp 𝕄) ∗ owns (c : Thread nD τ) arg10 fullShare Mn ∗ owns (c : Thread nD τ) arg11 fullShare Rs
        ∗ (iprop(owns (c : Thread nD τ) arg8 fullShare (putCols i (scaleLine i v) S) ∗ owns (c : Thread nD τ) arg10 fullShare (putCols i (meanLine i m) Mn)
            ∗ owns (c : Thread nD τ) arg11 fullShare (putCols i (rstdLine i rs) Rs)) -∗ K ⟨⟩))
      ⊢ wp frame (wpE (defs₀ (F := F)) 𝒱 (c : Thread nD τ) bd) E
          (Prog.bind (tailA i arg8 m rs v ⟨iota1, k0_pay678 (a0 i) iota0⟩) (tailB i arg10 arg11)) K := by
  unfold tailA
  simp only [Prog.bind_op, Prog.bind_ret]
  unfold tailB
  iintro ⟨H8, H10, H11, Hk⟩
  iapply (wp_load_owns 𝒱 c bd E) $$ H8; iintro H8
  iapply (wp_load_owns 𝒱 c bd E) $$ H8; iintro H8
  iapply (wp_store_owns 𝒱 c bd E) $$ H8; iintro H8
  iapply (wp_load_owns 𝒱 c bd E) $$ H10; iintro H10
  iapply (wp_load_owns 𝒱 c bd E) $$ H10; iintro H10
  iapply (wp_store_owns 𝒱 c bd E) $$ H10; iintro H10
  iapply (wp_load_owns 𝒱 c bd E) $$ H11; iintro H11
  iapply (wp_load_owns 𝒱 c bd E) $$ H11; iintro H11
  iapply (wp_store_owns 𝒱 c bd E) $$ H11; iintro H11
  rw [wp_ret]; imodintro
  iapply Hk
  isplitl [H8]; · iexact H8
  isplitl [H10]; · iexact H10
  iexact H11

/-- One run of the body. -/
theorem body_wp (𝒱 : Variants) (c : Dev nD) (bd : Option 𝒱.V) (E : Set ℕ) (i : grid0.Coords) (arg1 : Memref sig .tc .vmem S32x7168 .bf16) (harg1 : arg1.IsWhole) (arg2 : Memref sig .tc .vmem S32x7168 .bf16) (harg2 : arg2.IsWhole) (arg3 : Memref sig .tc .vmem S1x7168 .f32) (harg3 : arg3.IsWhole) (arg4 : Memref sig .tc .vmem S32x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S32x7168 .fp8e4m3) (harg7 : arg7.IsWhole) (arg8 : Memref sig .tc .vmem S2x512 .f32) (harg8 : arg8.IsWhole) (arg9 : Memref sig .tc .vmem S32x7168 .i8) (harg9 : arg9.IsWhole) (arg10 : Memref sig .tc .vmem S2x512 .f32) (harg10 : arg10.IsWhole) (arg11 : Memref sig .tc .vmem S2x512 .f32) (harg11 : arg11.IsWhole) (arg12 : Memref sig .tc .vmem S32x7168 .bf16) (harg12 : arg12.IsWhole) (arg13 : Memref sig .tc .vmem S32x7168 .f32) (harg13 : arg13.IsWhole) (arg14 : Memref sig .tc .vmem S448x128 .i32) (harg14 : arg14.IsWhole)
    (X A : S32x7168.Idx → Elt F .bf16) (B : S1x7168.Idx → Elt F .f32) (R : S32x7168.Idx → Elt F .i32)
    (G Be : S1x7168.Idx → Elt F .f32) (C : S32x7168.Idx → Elt F .fp8e4m3) (S Mn Rs : S2x512.Idx → Elt F .f32) (M : S32x7168.Idx → Elt F .i8)
    (H : S32x7168.Idx → Elt F .bf16) (f0 : S32x7168.Idx → Elt F .f32) (W : S448x128.Idx → Elt F .i32)
    (s : ℕ) (hs : s = place i) (K : PUnit → sProp 𝕄) :
    iprop((owns (c : Thread nD τ) arg1 fullShare X : sProp 𝕄) ∗ owns (c : Thread nD τ) arg2 fullShare A ∗ owns (c : Thread nD τ) arg3 fullShare B ∗ owns (c : Thread nD τ) arg4 fullShare R ∗ owns (c : Thread nD τ) arg5 fullShare G ∗ owns (c : Thread nD τ) arg6 fullShare Be ∗ owns (c : Thread nD τ) arg7 fullShare C ∗ owns (c : Thread nD τ) arg8 fullShare S ∗ owns (c : Thread nD τ) arg9 fullShare M ∗ owns (c : Thread nD τ) arg10 fullShare Mn ∗ owns (c : Thread nD τ) arg11 fullShare Rs ∗ owns (c : Thread nD τ) arg12 fullShare H ∗ owns (c : Thread nD τ) arg13 fullShare f0 ∗ owns (c : Thread nD τ) arg14 fullShare W
        ∗ (iprop(owns (c : Thread nD τ) arg1 fullShare X ∗ owns (c : Thread nD τ) arg2 fullShare A ∗ owns (c : Thread nD τ) arg3 fullShare B ∗ owns (c : Thread nD τ) arg4 fullShare R ∗ owns (c : Thread nD τ) arg5 fullShare G ∗ owns (c : Thread nD τ) arg6 fullShare Be ∗ owns (c : Thread nD τ) arg7 fullShare (codesV X A B R G Be) ∗ owns (c : Thread nD τ) arg8 fullShare (putCols i (scaleLine i (vV X A B R G Be)) S) ∗ owns (c : Thread nD τ) arg9 fullShare (if k0_cond1 i = 1#1 then whole (fun j => (pays (F := F)).mask (tileW (wordsV R s W) j)) else M) ∗ owns (c : Thread nD τ) arg10 fullShare (putCols i (meanLine i (meanV X A B R)) Mn) ∗ owns (c : Thread nD τ) arg11 fullShare (putCols i (rstdLine i (rstdV X A B R)) Rs) ∗ owns (c : Thread nD τ) arg12 fullShare (whole (hV X A B R)) ∗ (∃ f', owns (c : Thread nD τ) arg13 fullShare f') ∗ owns (c : Thread nD τ) arg14 fullShare (wordsV R s W)) -∗ K ⟨⟩))
      ⊢ wp frame (wpE (defs₀ (F := F)) 𝒱 (c : Thread nD τ) bd) E (cc0_bda_ln_fp8 (F := F) i arg1 harg1 arg2 harg2 arg3 harg3 arg4 harg4 arg5 harg5 arg6 harg6 arg7 harg7 arg8 harg8 arg9 harg9 arg10 harg10 arg11 harg11 arg12 harg12 arg13 harg13 arg14 harg14) K := by
  have hs8 : s < 8 := by subst hs; exact Nat.mod_lt _ (by decide)
  rw [show cc0_bda_ln_fp8 (F := F) = cc0_bda_ln_fp8_skel from cc0_bda_ln_fp8_eq_skeleton, eq_folded]
  unfold folded
  iintro ⟨H1, H2, H3, H4, H5, H6, H7, H8, H9, H10, H11, H12, H13, H14, Hk⟩
  iapply (wp_loop1 𝒱 c bd E pays s hs8 (fun j => (woff_eq i j).trans (by rw [hs])) R A X H B W zero _)
  isplitl [H1]; · iexact H1
  isplitl [H2]; · iexact H2
  isplitl [H3]; · iexact H3
  isplitl [H4]; · iexact H4
  isplitl [H12]; · iexact H12
  isplitl [H14]; · iexact H14
  iintro ⟨H1, H2, H3, H4, H12, H14⟩
  iapply (wp_loop2 𝒱 c bd E pays (meanV X A B R) (hV X A B R) (whole (hV X A B R)) (tileB_whole _) f0 zero _)
  isplitl [H12]; · iexact H12
  isplitl [H13]; · iexact H13
  iintro ⟨H12, H13⟩
  iapply (wp_loop3 𝒱 c bd E pays (rstdV X A B R) (cV X A B R) (whole (cV X A B R)) (tileB_whole _) G Be zero _)
  isplitl [H13]; · iexact H13
  isplitl [H5]; · iexact H5
  isplitl [H6]; · iexact H6
  iintro ⟨H13, H5, H6⟩
  iapply (wp_loop4 𝒱 c bd E pays (invOf (vV X A B R G Be)) (yV X A B R G Be) (whole (yV X A B R G Be)) (tileB_whole _) C _)
  isplitl [H13]; · iexact H13
  isplitl [H7]; · iexact H7
  iintro ⟨H13, H7⟩
  by_cases hc : k0_cond1 i = 1#1
  · rw [dif_pos hc, loop_bind _ (tile5 pays arg14 arg9 (storesMask arg9 harg9)) _ (fun _ _ _ => rfl),
      loop_bind _ (tile5 pays arg14 arg9 (storesMask arg9 harg9)) _ (fun _ _ _ => rfl)]
    iapply (wp_loop5 𝒱 c bd E pays (wordsV R s W) M _)
    isplitl [H14]; · iexact H14
    isplitl [H9]; · iexact H9
    iintro ⟨H14, H9⟩
    iapply (tail_wp 𝒱 c bd E i arg8 arg10 arg11 (meanV X A B R) (rstdV X A B R) (vV X A B R G Be) S Mn Rs K)
    isplitl [H8]; · iexact H8
    isplitl [H10]; · iexact H10
    isplitl [H11]; · iexact H11
    iintro ⟨H8, H10, H11⟩
    iapply Hk
    rw [if_pos hc]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexact H14
  · rw [dif_neg hc]
    iapply (tail_wp 𝒱 c bd E i arg8 arg10 arg11 (meanV X A B R) (rstdV X A B R) (vV X A B R G Be) S Mn Rs K)
    isplitl [H8]; · iexact H8
    isplitl [H10]; · iexact H10
    isplitl [H11]; · iexact H11
    iintro ⟨H8, H10, H11⟩
    iapply Hk
    rw [if_neg hc]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexact H14

end Cert.Kernel.Body

end
-- ==== Proof.RunP.lean ====
/- The run of the whole pipeline: what each window's buffer holds around every grid point, the body's obligation,
   and the launch. -/
module

public import proofs.«01_k».proof.Proof.BodyP
public import proofs.«01_k».proof.Proof.Gen.Kernel.Frame

@[expose] public section

set_option maxRecDepth 16384

noncomputable section

namespace Cert.Kernel.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Fold Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coord_val : ∀ t : Fin cfg0.N, (cfg0.grid.coords t 0).val = t.val := by decide +kernel
theorem cond_iff : ∀ t : Fin cfg0.N, k0_cond1 (cfg0.grid.coords t) = 1#1 ↔ t.val % 8 = 7 := by decide +kernel

theorem place_eq (t : Fin cfg0.N) : place (cfg0.grid.coords t) = t.val % 8 := by unfold place; rw [coord_val]

/-! ## The blocks -/

abbrev bX (c : Dev nD) (t : Fin cfg0.N) : S32x7168.Idx → Elt F .bf16 := iblk m c 0 t
abbrev bA (c : Dev nD) (t : Fin cfg0.N) : S32x7168.Idx → Elt F .bf16 := iblk m c 1 t
abbrev bB (c : Dev nD) (t : Fin cfg0.N) : S1x7168.Idx → Elt F .f32 := iblk m c 2 t
abbrev bR (c : Dev nD) (t : Fin cfg0.N) : S32x7168.Idx → Elt F .i32 := iblk m c 3 t
abbrev bG (c : Dev nD) (t : Fin cfg0.N) : S1x7168.Idx → Elt F .f32 := iblk m c 4 t
abbrev bBe (c : Dev nD) (t : Fin cfg0.N) : S1x7168.Idx → Elt F .f32 := iblk m c 5 t

/-- The random bits' block at the point of number `n`. -/
def randAt (c : Dev nD) (n : ℕ) : S32x7168.Idx → Elt F .i32 := bR m c ⟨n % 32, Nat.mod_lt _ (by decide)⟩

theorem randAt_val (c : Dev nD) (t : Fin cfg0.N) : randAt m c t.val = bR m c t := by
  have h : t.val % 32 = t.val := Nat.mod_eq_of_lt t.isLt
  unfold randAt
  congr 1
  exact Fin.ext h

/-- The words of the eight points of group `g`. -/
def wordsAt (c : Dev nD) (g : ℕ) : S448x128.Idx → Elt F .i32 := fun i =>
  wordTile pays (randAt m c (8 * g + (i 0).val % 8)) ⟨(i 0).val / 8, by have : (i 0).val < 448 := (i 0).isLt; omega⟩
    (fun a => match a with
      | ⟨0, _⟩ => (⟨0, by decide⟩ : Fin 1)
      | ⟨1, _⟩ => (⟨(i 1).val, (i 1).isLt⟩ : Fin 128))

/-- Before point `t` the words' scratch holds the words of the points of `t`'s group before it. -/
def WordsOk (c : Dev nD) (t : ℕ) (W : S448x128.Idx → Elt F .i32) : Prop :=
  ∀ i : S448x128.Idx, (i 0).val % 8 < t % 8 → W i = wordsAt m c (t / 8) i

theorem words_upd (c : Dev nD) (t : Fin cfg0.N) (W : S448x128.Idx → Elt F .i32) (h : WordsOk m c t.val W) (i : S448x128.Idx)
    (hi : (i 0).val % 8 ≤ t.val % 8) : wordsV (bR m c t) (t.val % 8) W i = wordsAt m c (t.val / 8) i := by
  have h0 : (i 0).val < 448 := (i 0).isLt
  unfold wordsV wordsUpTo
  by_cases e : (i 0).val % 8 = t.val % 8
  · rw [if_pos (by constructor <;> omega)]
    unfold wordsAt
    rw [e, show 8 * (t.val / 8) + t.val % 8 = t.val by omega, randAt_val]
    rfl
  · rw [if_neg (by omega)]
    exact h i (by omega)

theorem words_succ (c : Dev nD) (t : Fin cfg0.N) (W : S448x128.Idx → Elt F .i32) (h : WordsOk m c t.val W) :
    WordsOk m c (t.val + 1) (wordsV (bR m c t) (t.val % 8) W) := by
  intro i hi
  have e : (t.val + 1) / 8 = t.val / 8 := by omega
  rw [e]
  exact words_upd m c t W h i (by omega)

theorem words_full (c : Dev nD) (t : Fin cfg0.N) (W : S448x128.Idx → Elt F .i32) (h : WordsOk m c t.val W) (ht : t.val % 8 = 7) :
    wordsV (bR m c t) (t.val % 8) W = wordsAt m c (t.val / 8) := by
  funext i
  exact words_upd m c t W h i (by omega)

/-! ## The proof data -/

def codesAt (c : Dev nD) (t : Fin cfg0.N) : S32x7168.Idx → Elt F .fp8e4m3 :=
  codesV (bX m c t) (bA m c t) (bB m c t) (bR m c t) (bG m c t) (bBe m c t)
def hAt (c : Dev nD) (t : Fin cfg0.N) : S32x7168.Idx → Elt F .bf16 := whole (hV (bX m c t) (bA m c t) (bB m c t) (bR m c t))
def maskAt (c : Dev nD) (g : ℕ) : S32x7168.Idx → Elt F .i8 := whole fun j => (pays (F := F)).mask (tileW (wordsAt m c g) j)
def scalesUpd (c : Dev nD) (t : Fin cfg0.N) (S : S2x512.Idx → Elt F .f32) : S2x512.Idx → Elt F .f32 :=
  putCols (cfg0.grid.coords t) (scaleLine (cfg0.grid.coords t) (vV (bX m c t) (bA m c t) (bB m c t) (bR m c t) (bG m c t) (bBe m c t))) S
def meanUpd (c : Dev nD) (t : Fin cfg0.N) (S : S2x512.Idx → Elt F .f32) : S2x512.Idx → Elt F .f32 :=
  putCols (cfg0.grid.coords t) (meanLine (cfg0.grid.coords t) (meanV (bX m c t) (bA m c t) (bB m c t) (bR m c t))) S
def rstdUpd (c : Dev nD) (t : Fin cfg0.N) (S : S2x512.Idx → Elt F .f32) : S2x512.Idx → Elt F .f32 :=
  putCols (cfg0.grid.coords t) (rstdLine (cfg0.grid.coords t) (rstdV (bX m c t) (bA m c t) (bB m c t) (bR m c t))) S

/-- What the body leaves in window `w`'s buffer at point `t`, given what it found there. -/
def after (c : Dev nD) (w : Fin cfg0.W) (t : Fin cfg0.N) (Y X : (cfg0.win w).block.Idx → Elt F (cfg0.win w).elt) : Prop :=
  match w with
  | ⟨0, _⟩ => X = Y
  | ⟨1, _⟩ => X = Y
  | ⟨2, _⟩ => X = Y
  | ⟨3, _⟩ => X = Y
  | ⟨4, _⟩ => X = Y
  | ⟨5, _⟩ => X = Y
  | ⟨6, _⟩ => X = codesAt m c t
  | ⟨7, _⟩ => X = scalesUpd m c t Y
  | ⟨8, _⟩ => t.val % 8 = 7 → X = maskAt m c (t.val / 8)
  | ⟨9, _⟩ => X = meanUpd m c t Y
  | ⟨10, _⟩ => X = rstdUpd m c t Y
  | ⟨11, _⟩ => X = hAt m c t
  | ⟨_ + 12, _⟩ => True

abbrev scF : Memref sig .tc .vmem S32x7168 .f32 := Memref.whole cc0_scratch0
abbrev scW : Memref sig .tc .vmem S448x128 .i32 := Memref.whole cc0_scratch1

/-- The scratch and the generator register before point `t`. -/
def Phi (c : Dev nD) (t : ℕ) : sProp 𝕄 :=
  iprop(((∃ f, owns (c : Thread nD τ) scF fullShare f) ∗ (∃ W, ⌜WordsOk m c t W⌝ ∗ owns (c : Thread nD τ) scW fullShare W)) ∗ ∃ r, prngReg c r)

def rdat (c : Dev nD) : RDat τ (Elt F) Unit ℕ (UR sig nD τ) ℕ cfg0 c where
  A w := V m c (Pipeline.arrRef spec0 w)
  after w t Y X := after m c w t Y X
  Φ t := Phi m c t.val
  q _ := fullShare
  owed _ := 0

/-! ## The body's obligation -/

theorem find0 (c : Dev nD) (t : Fin cfg0.N) (Y) (h : (rdat m c).Finds 0 t Y) : Y = bX m c t := by
  obtain ⟨d, rfl⟩ := (rdat m c).finds_in_eq_fetched 0 rfl (fun _ _ _ => rfl) (fun _ _ _ h => h) t Y h
  rfl
theorem find1 (c : Dev nD) (t : Fin cfg0.N) (Y) (h : (rdat m c).Finds 1 t Y) : Y = bA m c t := by
  obtain ⟨d, rfl⟩ := (rdat m c).finds_in_eq_fetched 1 rfl (fun _ _ _ => rfl) (fun _ _ _ h => h) t Y h
  rfl
theorem find2 (c : Dev nD) (t : Fin cfg0.N) (Y) (h : (rdat m c).Finds 2 t Y) : Y = bB m c t := by
  obtain ⟨d, rfl⟩ := (rdat m c).finds_in_eq_fetched 2 rfl (fun _ _ _ => rfl) (fun _ _ _ h => h) t Y h
  rfl
theorem find3 (c : Dev nD) (t : Fin cfg0.N) (Y) (h : (rdat m c).Finds 3 t Y) : Y = bR m c t := by
  obtain ⟨d, rfl⟩ := (rdat m c).finds_in_eq_fetched 3 rfl (fun _ _ _ => rfl) (fun _ _ _ h => h) t Y h
  rfl
theorem find4 (c : Dev nD) (t : Fin cfg0.N) (Y) (h : (rdat m c).Finds 4 t Y) : Y = bG m c t := by
  obtain ⟨d, rfl⟩ := (rdat m c).finds_in_eq_fetched 4 rfl (fun _ _ _ => rfl) (fun _ _ _ h => h) t Y h
  rfl
theorem find5 (c : Dev nD) (t : Fin cfg0.N) (Y) (h : (rdat m c).Finds 5 t Y) : Y = bBe m c t := by
  obtain ⟨d, rfl⟩ := (rdat m c).finds_in_eq_fetched 5 rfl (fun _ _ _ => rfl) (fun _ _ _ h => h) t Y h
  rfl

/-- The body table's row at the point. -/
theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : (rdat m c).BodyObligation (defs₀ (F := F)) Variants.none () Set.univ := by
  intro t Y hY
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  rw [show (rdat m c).owesAt () t.succ = (rdat m c).owesAt () t.castSucc from rfl,
    show (rdat m c).Φ t.succ = Phi m c (t.val + 1) from rfl, show (rdat m c).Φ t.castSucc = Phi m c t.val from rfl]
  unfold Phi
  iintro ⟨⟨⟨⟨%f0, Hf⟩, ⟨%W, %hW, Hw⟩⟩, Hg⟩, Ho, H0, H1, H2, H3, H4, H5, H6, H7, H8, H9, H10, H11⟩
  iapply (body_wp (𝒱 := Variants.none) (c := c) (bd := none) (E := Set.univ) (i := grid0.coords t) (X := Y 0) (A := Y 1) (B := Y 2) (R := Y 3)
    (G := Y 4) (Be := Y 5) (C := Y 6) (S := Y 7) (M := Y 8) (Mn := Y 9) (Rs := Y 10) (H := Y 11) (f0 := f0) (W := W)
    (s := t.val % 8) (hs := (place_eq t).symm))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hf]; · iexact Hf
  isplitl [Hw]; · iexact Hw
  iintro ⟨H0, H1, H2, H3, H4, H5, H6, H7, H8, H9, H10, H11, Hf, Hw⟩
  isplitl [Hf Hw Hg]
  · isplitl [Hf Hw]
    · isplitl [Hf]
      · icases Hf with ⟨%f', Hf⟩; iexists f'; iexact Hf
      · iexists _
        isplitr
        swap
        · iexact Hw
        · ipureintro
          rw [e3]; exact words_succ m c t W hW
    · iexact Hg
  isplitl [Ho]; · iexact Ho
  isplitl [H0]
  · iexists _; isplitr; swap; · iexact H0
    ipureintro; exact (rfl : Y 0 = Y 0)
  isplitl [H1]
  · iexists _; isplitr; swap; · iexact H1
    ipureintro; exact (rfl : Y 1 = Y 1)
  isplitl [H2]
  · iexists _; isplitr; swap; · iexact H2
    ipureintro; exact (rfl : Y 2 = Y 2)
  isplitl [H3]
  · iexists _; isplitr; swap; · iexact H3
    ipureintro; exact (rfl : Y 3 = Y 3)
  isplitl [H4]
  · iexists _; isplitr; swap; · iexact H4
    ipureintro; exact (rfl : Y 4 = Y 4)
  isplitl [H5]
  · iexists _; isplitr; swap; · iexact H5
    ipureintro; exact (rfl : Y 5 = Y 5)
  isplitl [H6]
  · iexists _; isplitr; swap; · iexact H6
    ipureintro
    show _ = codesAt m c t
    rw [e0, e1, e2, e3, e4, e5]; rfl
  isplitl [H7]
  · iexists _; isplitr; swap; · iexact H7
    ipureintro
    show _ = scalesUpd m c t (Y 7)
    rw [e0, e1, e2, e3, e4, e5]; rfl
  isplitl [H8]
  · iexists _; isplitr; swap; · iexact H8
    ipureintro
    show t.val % 8 = 7 → _ = maskAt m c (t.val / 8)
    intro ht
    rw [if_pos ((cond_iff t).mpr ht), e3, words_full m c t W hW ht]; rfl
  isplitl [H9]
  · iexists _; isplitr; swap; · iexact H9
    ipureintro
    show _ = meanUpd m c t (Y 9)
    rw [e0, e1, e2, e3]; rfl
  isplitl [H10]
  · iexists _; isplitr; swap; · iexact H10
    ipureintro
    show _ = rstdUpd m c t (Y 10)
    rw [e0, e1, e2, e3]; rfl
  · iexists _; isplitr; swap; · iexact H11
    ipureintro
    show _ = hAt m c t
    rw [e0, e1, e2, e3]; rfl

/-! ## The launch -/

theorem phi_zero (c : Dev nD) : Pipeline.ΦA (cfgs 0).spec c ⊢ (rdat m c).Φ 0 := by
  show (Pipeline.ΦA spec0 c : sProp 𝕄) ⊢ Phi m c 0
  unfold Pipeline.ΦA Phi
  rw [scopedRest0_eq]
  simp only [owns_whole]
  iintro ⟨⟨⟨%f, Hf⟩, ⟨%w, Hw⟩⟩, Hg⟩
  isplitl [Hf Hw]
  · isplitl [Hf]
    · iexists f; iexact Hf
    · iexists w
      isplitr
      · ipureintro; intro i hi; omega
      · iexact Hw
  · iexact Hg

theorem phi_last (c : Dev nD) : (rdat m c).Φ (Fin.last (cfgs 0).N) ⊢ Pipeline.ΦA (cfgs 0).spec c := by
  show (Phi m c (Fin.last (cfgs 0).N).val : sProp 𝕄) ⊢ Pipeline.ΦA spec0 c
  unfold Pipeline.ΦA Phi
  rw [scopedRest0_eq]
  simp only [owns_whole]
  iintro ⟨⟨⟨%f, Hf⟩, ⟨%w, %hw, Hw⟩⟩, Hg⟩
  isplitl [Hf Hw]
  · isplitl [Hf]
    · iexists f; iexact Hf
    · iexists w; iexact Hw
  · iexact Hg

set_option backward.isDefEq.respectTransparency.types false in
/-- Every execution ends with the arrays at contents that the body's relations allow, everything else unchanged and
    every counter at zero. -/
theorem run_main :
    θ_run defs (onTc (τ := τ) (main (F := F))) (s₀ m ρ)
      (fun r => RDat.FramePost (cfgs 0) (fun c => rdat m c) (V m) r ∧ r.2.sem = fun _ => 0) :=
  RDat.θ_run_frame_track (Q' := _) cfgs (0 : Fin 1) launch0 defs₀ Variants.none (fun c => rdat m c) m ρ main
    (hbody := body_obligation m) (hshare := fun c w => by show (if _ then _ else _) = _; split <;> rfl)
    (howed := fun _ _ => rfl) (V := V m) (hmain := hmain m Variants.none) (hA := fun _ _ => rfl)
    (hin := phi_zero m) (hout := phi_last m)

/-- The argument arrays end unchanged and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.Kernel.Body

end
-- ==== Proof.FoldPI.lean ====
/- The printed body is the four loops. -/
module

public import proofs.«01_k».proof.Proof.Fold
public import proofs.«01_k».proof.Proof.Gen.KernelIdeal.Skeleton

@[expose] public section

noncomputable section

namespace Cert.KernelIdeal.Body

open Idealize.ShloMosaic Idealize.SL.Sem Cert.Fold
open Cert.KernelIdeal Cert.KernelIdeal.Gen

variable {F : FTy → Type} [FloatOps F] [Named F]

/-- What the body computes on each tile. -/
def pays : Pays F where
  h r a b x := k0_pay63 r a b x
  acc1 acc h := addf acc (extf .f32 h bitsLt_bf16_f32)
  word r := k0_pay61 (k0_pay65 k0_pay56 r)
  c m h := k0_pay339 m h
  acc2 acc c := addf acc (mulf c c)
  y rs f g b := addf (mulf (mulf f rs) (broadcastTo S32x128 (shapeCast S1x128 g shapeCasts_S1x128_S1x128) broadcasts_S1x128_S32x128))
    (broadcastTo S32x128 (shapeCast S1x128 b shapeCasts_S1x128_S1x128) broadcasts_S1x128_S32x128)
  acc3 acc y := maximumf acc (absf y)
  st v := shapeCast S32x128 v shapeCasts_S32x128_S32x128
  code inv f := k0_pay674 inv f
  mask w := k0_pay675 w

def zero : FVec F S32x128 .f32 := broadcast S32x128 (Scalar.ofBits .f32 0x00000000#32)

/-- The mean over the row, in every lane. -/
def meanOf (acc : FVec F S32x128 .f32) : FVec F S32x128 .f32 :=
  broadcastTo S32x128 (shapeCast S32x1 (mulf (shapeCast S32x1 (multiReduction .add [1] S32 acc 0x00000000#32 reduces_S32x128_S32 (.inl rfl) rfl) shapeCasts_S32_S32x1)
    (broadcast S32x1 (Named.named κ "inv_d" 0x39124925#32))) shapeCasts_S32x1_S32x1) broadcasts_S32x1_S32x128

/-- The reciprocal root of the variance, in every lane. -/
def rstdOf (acc : FVec F S32x128 .f32) : FVec F S32x128 .f32 :=
  k0_pay466 (mulf (shapeCast S32x1 (multiReduction .add [1] S32 acc 0x00000000#32 reduces_S32x128_S32 (.inl rfl) rfl) shapeCasts_S32_S32x1)
    (broadcast S32x1 (Named.named κ "inv_d" 0x39124925#32))) (Scalar.ofBits .f32 0x3727C5AC#32)

/-- The largest magnitude of the row over the largest code, in every lane. -/
def vOf (acc : FVec F S32x128 .f32) : FVec F S32x128 .f32 :=
  mulf (broadcastTo S32x128 (shapeCast S32x1 (shapeCast S32x1 (multiReduction .maximumf [1] S32 acc 0xFF800000#32 reduces_S32x128_S32 (.inl rfl) rfl) shapeCasts_S32_S32x1)
    shapeCasts_S32x1_S32x1) broadcasts_S32x1_S32x128) (broadcast S32x128 (Scalar.ofBits .f32 0x3B124925#32))

/-- One probe of the exponent search. -/
def probe (v : FVec F S32x128 .f32) (bit : BitVec 32) (b : IVec S32x128 32) : IVec S32x128 32 :=
  select (cmpf .oge v (bitcastToFloat .f32 (shli (addi b (broadcast S32x128 bit)) (broadcast S32x128 23#32)))) (addi b (broadcast S32x128 bit)) b

/-- The biased exponent, by eight probes. -/
def biased (v : FVec F S32x128 .f32) : IVec S32x128 32 :=
  k0_pay614 v (probe v 64#32 (probe v 128#32 (broadcast S32x128 0#32))) 32#32

def expOf (v : FVec F S32x128 .f32) : IVec S32x128 32 :=
  k0_pay617 (biased v) (subi (biased v) (broadcast S32x128 126#32)) (cmpi .eq (biased v) (broadcast S32x128 0#32)) 255#32
def invOf (v : FVec F S32x128 .f32) : FVec F S32x128 .f32 :=
  k0_pay618 (F := F) (biased v) (subi (biased v) (broadcast S32x128 126#32)) (cmpi .eq (biased v) (broadcast S32x128 0#32)) 255#32

def iota1 : IVec S32x128 32 := iota .tc S32x128 32 [1] iota_S32x128_d1_w32
def iota0 : IVec S32x128 32 := iota .tc S32x128 32 [0] iota_S32x128_d0_w32

def tileId (arg0 : BitVec 32) : BitVec 32 :=
  let v4272 : BitVec 32 := Scalar.divsi arg0 4#32
  let v4273 : BitVec 1 := Scalar.cmpi .sgt arg0 0#32
  let v4274 : BitVec 32 := Scalar.extui v4273
  let v4275 : BitVec 1 := Scalar.cmpi .slt arg0 0#32
  let v4276 : BitVec 32 := Scalar.extui v4275
  let v4277 : BitVec 32 := Scalar.subi v4274 v4276
  let v4278 : BitVec 1 := Scalar.cmpi .sgt 4#32 0#32
  let v4279 : BitVec 32 := Scalar.extui v4278
  let v4280 : BitVec 1 := Scalar.cmpi .slt 4#32 0#32
  let v4281 : BitVec 32 := Scalar.extui v4280
  let v4282 : BitVec 32 := Scalar.subi v4279 v4281
  let v4283 : BitVec 1 := Scalar.cmpi .ne v4277 v4282
  let v4284 : BitVec 32 := Scalar.remsi arg0 4#32
  let v4285 : BitVec 1 := Scalar.cmpi .ne v4284 0#32
  let v4286 : BitVec 1 := Scalar.andi v4283 v4285
  let v4287 : BitVec 32 := Scalar.subi v4272 1#32
  Scalar.select v4286 v4287 v4272

/-- The batch of the block. -/
def batchOf (arg0 : BitVec 32) : BitVec 32 := tileId (tileId arg0)

abbrev a0 (i : grid0.Coords) : BitVec 32 := BitVec.ofNat 32 (i 0).val

def scaleLine (i : grid0.Coords) (v : FVec F S32x128 .f32) (old : Vec F S2x128 .f32) : FVec F S2x128 .f32 :=
  k0_pay680 (a0 i) (expOf v) iota1 (k0_pay678 (a0 i) iota0) (batchOf (a0 i)) old
def meanLine (i : grid0.Coords) (v : FVec F S32x128 .f32) (old : Vec F S2x128 .f32) : FVec F S2x128 .f32 :=
  k0_pay1 v (k0_pay678 (a0 i) iota0) (k0_pay679 (a0 i) iota1 (batchOf (a0 i))) k0_pay681 old
def rstdLine (i : grid0.Coords) (v : FVec F S32x128 .f32) (old : Vec F S2x128 .f32) : FVec F S2x128 .f32 :=
  k0_pay2 v (k0_pay678 (a0 i) iota0) (k0_pay679 (a0 i) iota1 (batchOf (a0 i))) old

theorem packedBf16 (j : Fin 56) : (rB j).PackedRows (EltTy.packing .bf16) := by
  revert j; decide +kernel
theorem packedI8 (j : Fin 56) : (rB j).PackedRows (EltTy.packing .i8) := by
  revert j; decide +kernel
theorem packedFp8 (j : Fin 56) : (rB j).PackedRows (EltTy.packing .fp8e4m3) := by
  revert j; decide +kernel

theorem storesH (m : Memref sig .tc .vmem S32x7168 .bf16) (hm : m.IsWhole) (j : Fin 56) : (m.access (rB j)).Stores Finset.univ :=
  View.stores_vmem h_S32x128 (hm.storeExact_slice rfl _ (packedBf16 j)) (fun _ => rfl)
theorem storesMask (m : Memref sig .tc .vmem S32x7168 .i8) (hm : m.IsWhole) (j : Fin 56) : (m.access (rB j)).Stores Finset.univ :=
  View.stores_vmem h_S32x128 (hm.storeExact_slice rfl _ (packedI8 j)) (fun _ => rfl)
theorem storesCodes (m : Memref sig .tc .vmem S32x7168 .fp8e4m3) (hm : m.IsWhole) (j : Fin 56) : (m.access (rB j)).Stores Finset.univ :=
  View.stores_vmem h_S32x128 (hm.storeExact_slice rfl _ (packedFp8 j)) (fun _ => rfl)

/-- The offset of the block's row among the words of tile `j`. -/
abbrev woff (i : grid0.Coords) (j : Fin 56) : Fin 2 → ℕ := k0_off1 i (BitVec.ofNat 32 (8 * j.val))
theorem woff_inb (i : grid0.Coords) (j : Fin 56) : ∀ a, woff i j a + S1x128.size a ≤ S448x128.size a := k0_off1_inb i j

def colOf (arg0 : BitVec 32) : BitVec 32 :=
  let v4306 : BitVec 1 := Scalar.cmpi .eq 4#32 0#32
  let v4307 : BitVec 32 := Scalar.select v4306 1#32 4#32
  let v4308 : BitVec 32 := Scalar.remsi (tileId arg0) v4307
  let v4309 : BitVec 1 := Scalar.cmpi .ne v4308 0#32
  let v4310 : BitVec 1 := Scalar.cmpi .slt v4308 0#32
  let v4311 : BitVec 1 := Scalar.cmpi .slt v4307 0#32
  let v4312 : BitVec 1 := Scalar.xori v4310 v4311
  let v4313 : BitVec 1 := Scalar.andi v4312 v4309
  let v4314 : BitVec 32 := Scalar.addi v4308 v4307
  let v4315 : BitVec 32 := Scalar.select v4313 v4314 v4308
  Scalar.muli v4315 128#32

/-- The end of the body's second half: the scales of the block, put into their places. -/
def tailA (i : grid0.Coords) (arg8 : Memref sig .tc .vmem S2x512 .f32) (m rs v : FVec F S32x128 .f32) :
    (Σ' (v4257 : IVec S32x128 32), IVec S32x128 1) → Prog (TpuEff nD τ sig (Elt F) Λ₀ .tc)
      (Σ' (v2361 : FVec F S32x128 .f32) (v2875 : FVec F S32x128 .f32) (v4271 : IVec S32x128 1) (v4317 : BitVec 32) (v4339 : IVec S2x128 1), FVec F S32x128 .f32) :=
  fun x =>
  .op (.load arg8 (Rect.unit (s := S2x512) (k0_off2 i) S2x128.size (k0_off2_inb i)).toLoadRect (View.loadsAt_vmem h_S2x128)) fun o =>
  .op (.load arg8 (Rect.unit (s := S2x512) (k0_off2 i) S2x128.size (k0_off2_inb i)).toLoadRect (View.loadsAt_vmem h_S2x128)) fun _ =>
  .op (.store arg8 (Rect.unit (s := S2x512) (k0_off2 i) S2x128.size (k0_off2_inb i)) (k0_pay680 (a0 i) (expOf v) x.1 x.2 (batchOf (a0 i)) o) Finset.univ (View.stores_vmem_bits_univ h_S2x128 rfl) (.inl rfl)) fun _ =>
  .ret ⟨m, rs, x.2, colOf (a0 i), k0_pay679 (a0 i) x.1 (batchOf (a0 i)), k0_pay681⟩

/-- The end of the body: the means and the reciprocal roots of the block, put into their places. -/
def tailB (i : grid0.Coords) (arg10 arg11 : Memref sig .tc .vmem S2x512 .f32) :
    (Σ' (v2361 : FVec F S32x128 .f32) (v2875 : FVec F S32x128 .f32) (v4271 : IVec S32x128 1) (v4317 : BitVec 32) (v4339 : IVec S2x128 1), FVec F S32x128 .f32) →
    Prog (TpuEff nD τ sig (Elt F) Λ₀ .tc) PUnit :=
  fun x =>
  .op (.load arg10 (Rect.unit (s := S2x512) (k0_off2 i) S2x128.size (k0_off2_inb i)).toLoadRect (View.loadsAt_vmem h_S2x128)) fun o =>
  .op (.load arg10 (Rect.unit (s := S2x512) (k0_off2 i) S2x128.size (k0_off2_inb i)).toLoadRect (View.loadsAt_vmem h_S2x128)) fun _ =>
  .op (.store arg10 (Rect.unit (s := S2x512) (k0_off2 i) S2x128.size (k0_off2_inb i)) (k0_pay1 x.1 x.2.2.1 x.2.2.2.2.1 x.2.2.2.2.2 o) Finset.univ (View.stores_vmem_bits_univ h_S2x128 rfl) (.inl rfl)) fun _ =>
  .op (.load arg11 (Rect.unit (s := S2x512) (k0_off2 i) S2x128.size (k0_off2_inb i)).toLoadRect (View.loadsAt_vmem h_S2x128)) fun o =>
  .op (.load arg11 (Rect.unit (s := S2x512) (k0_off2 i) S2x128.size (k0_off2_inb i)).toLoadRect (View.loadsAt_vmem h_S2x128)) fun _ =>
  .op (.store arg11 (Rect.unit (s := S2x512) (k0_off2 i) S2x128.size (k0_off2_inb i)) (k0_pay2 x.2.1 x.2.2.1 x.2.2.2.2.1 o) Finset.univ (View.stores_vmem_bits_univ h_S2x128 rfl) (.inl rfl)) fun _ =>
  .ret ⟨⟩

/-- The body, its loops folded. -/
def folded (i : grid0.Coords) (arg1 : Memref sig .tc .vmem S32x7168 .bf16) (harg1 : arg1.IsWhole) (arg2 : Memref sig .tc .vmem S32x7168 .bf16) (harg2 : arg2.IsWhole) (arg3 : Memref sig .tc .vmem S1x7168 .f32) (harg3 : arg3.IsWhole) (arg4 : Memref sig .tc .vmem S32x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S32x7168 .fp8e4m3) (harg7 : arg7.IsWhole) (arg8 : Memref sig .tc .vmem S2x512 .f32) (harg8 : arg8.IsWhole) (arg9 : Memref sig .tc .vmem S32x7168 .i8) (harg9 : arg9.IsWhole) (arg10 : Memref sig .tc .vmem S2x512 .f32) (harg10 : arg10.IsWhole) (arg11 : Memref sig .tc .vmem S2x512 .f32) (harg11 : arg11.IsWhole) (arg12 : Memref sig .tc .vmem S32x7168 .bf16) (harg12 : arg12.IsWhole) (arg13 : Memref sig .tc .vmem S32x7168 .f32) (harg13 : arg13.IsWhole) (arg14 : Memref sig .tc .vmem S448x128 .i32) (harg14 : arg14.IsWhole) : Prog (TpuEff nD τ sig (Elt F) Λ₀ .tc) PUnit :=
  loop (tile1 pays arg1 arg2 arg12 arg3 arg4 arg14 (storesH arg12 harg12) (woff i) (woff_inb i)) 56 (le_refl _) zero fun acc1 =>
  loop (tile2 pays arg12 arg13 (meanOf acc1)) 56 (le_refl _) zero fun acc2 =>
  loop (tile3 pays arg13 arg5 arg6 (rstdOf acc2)) 56 (le_refl _) zero fun acc3 =>
  loop (tile4 pays arg13 arg7 (storesCodes arg7 harg7) (invOf (vOf acc3))) 56 (le_refl _) () fun _ =>
  Prog.bind (Prog.bind
    (if _h : k0_cond1 i = 1#1 then
      loop (tile5 pays arg14 arg9 (storesMask arg9 harg9)) 56 (le_refl _) () fun _ => .ret ⟨iota1, k0_pay678 (a0 i) iota0⟩
    else .ret ⟨iota1, k0_pay678 (a0 i) iota0⟩)
    (tailA i arg8 (meanOf acc1) (rstdOf acc2) (vOf acc3))) (tailB i arg10 arg11)

set_option maxRecDepth 1000000 in
set_option maxHeartbeats 4000000 in
/-- The printed body is the folded one. -/
theorem eq_folded (i : grid0.Coords) (arg1 : Memref sig .tc .vmem S32x7168 .bf16) (harg1 : arg1.IsWhole) (arg2 : Memref sig .tc .vmem S32x7168 .bf16) (harg2 : arg2.IsWhole) (arg3 : Memref sig .tc .vmem S1x7168 .f32) (harg3 : arg3.IsWhole) (arg4 : Memref sig .tc .vmem S32x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S32x7168 .fp8e4m3) (harg7 : arg7.IsWhole) (arg8 : Memref sig .tc .vmem S2x512 .f32) (harg8 : arg8.IsWhole) (arg9 : Memref sig .tc .vmem S32x7168 .i8) (harg9 : arg9.IsWhole) (arg10 : Memref sig .tc .vmem S2x512 .f32) (harg10 : arg10.IsWhole) (arg11 : Memref sig .tc .vmem S2x512 .f32) (harg11 : arg11.IsWhole) (arg12 : Memref sig .tc .vmem S32x7168 .bf16) (harg12 : arg12.IsWhole) (arg13 : Memref sig .tc .vmem S32x7168 .f32) (harg13 : arg13.IsWhole) (arg14 : Memref sig .tc .vmem S448x128 .i32) (harg14 : arg14.IsWhole) :
    cc0_bda_ln_fp8_skel (F := F) i arg1 harg1 arg2 harg2 arg3 harg3 arg4 harg4 arg5 harg5 arg6 harg6 arg7 harg7 arg8 harg8 arg9 harg9 arg10 harg10 arg11 harg11 arg12 harg12 arg13 harg13 arg14 harg14 = folded (F := F) i arg1 harg1 arg2 harg2 arg3 harg3 arg4 harg4 arg5 harg5 arg6 harg6 arg7 harg7 arg8 harg8 arg9 harg9 arg10 harg10 arg11 harg11 arg12 harg12 arg13 harg13 arg14 harg14 := by
  exact rfl

end Cert.KernelIdeal.Body

end
-- ==== Proof.BodyPI.lean ====
/- What one run of the body leaves in every buffer it is handed, for any contents of them. -/
module

public import proofs.«01_k».proof.Proof.FoldPI
public import proofs.«01_k».proof.Proof.LoopWp
public import Idealize.ShloMosaic.Lib.Pipeline.Covers
public import proofs.«01_k».proof.Proof.Gen.KernelIdeal.Launch

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Fold Cert.KernelIdeal Cert.KernelIdeal.Gen

variable {F : FTy → Type} [FloatOps F] [Named F]

local notation "𝕄" => MT nD τ sig Unit (Elt F) ℕ (UR sig nD τ) ℕ

/-! ## The block's values -/

section Values

variable (X A : S32x7168.Idx → Elt F .bf16) (B : S1x7168.Idx → Elt F .f32) (R : S32x7168.Idx → Elt F .i32)
variable (G Be : S1x7168.Idx → Elt F .f32)

/-- The residual sum, tile by tile. -/
def hV : Fin 56 → S32x128.Idx → Elt F .bf16 := hTile pays R A X B
/-- The rows' means. -/
def meanV : FVec F S32x128 .f32 := meanOf (acc1 pays (hV X A B R) zero 56)
/-- The centred values. -/
def cV (j : Fin 56) : FVec F S32x128 .f32 := (pays (F := F)).st (cTile pays (hV X A B R) (meanV X A B R) j)
/-- The rows' reciprocal roots. -/
def rstdV : FVec F S32x128 .f32 := rstdOf (acc2 pays (hV X A B R) (meanV X A B R) zero 56)
/-- The normalised values. -/
def yV (j : Fin 56) : FVec F S32x128 .f32 := (pays (F := F)).st (yTile pays (cV X A B R) G Be (rstdV X A B R) j)
/-- The rows' largest magnitudes over the largest code. -/
def vV : FVec F S32x128 .f32 := vOf (acc3 pays (cV X A B R) G Be (rstdV X A B R) zero 56)
/-- The block's codes. -/
def codesV : S32x7168.Idx → Elt F .fp8e4m3 := whole fun j => (pays (F := F)).code (invOf (vV X A B R G Be)) (yV X A B R G Be j)
/-- The words after the block at place `s` of its eight. -/
def wordsV (s : ℕ) (W : S448x128.Idx → Elt F .i32) : S448x128.Idx → Elt F .i32 := wordsUpTo 56 s W (wordTile pays R)
/-- The block's columns of a per-token result, overwritten by what `line` makes of the old ones. -/
def putCols (i : grid0.Coords) (line : Vec F S2x128 .f32 → FVec F S2x128 .f32) (S : S2x512.Idx → Elt F .f32) : S2x512.Idx → Elt F .f32 :=
  VecWindow.put (s := S2x512) S (k0_off2 i) S2x128.size (line (VecWindow.window (s := S2x512) S (k0_off2 i) S2x128.size (k0_off2_inb i)))

end Values

/-- The block's place among its eight. -/
def place (i : grid0.Coords) : ℕ := (i 0).val % 8

theorem woff_eq : ∀ (i : grid0.Coords) (j : Fin 56), woff i j = ![8 * j.val + place i, 0] := by
  intro i
  have h : ∀ (t : Fin grid0.N) (j : Fin 56), woff (grid0.coords t) j = ![8 * j.val + place (grid0.coords t), 0] := by decide +kernel
  obtain ⟨t, rfl⟩ := grid0.coords_surjective i
  exact h t

theorem loop_bind {α β σ : Type} {Λ : Labels} (f : Fin 56 → σ → (σ → Pr nD τ sig F Λ α) → Pr nD τ sig F Λ α)
    (g : Fin 56 → σ → (σ → Pr nD τ sig F Λ β) → Pr nD τ sig F Λ β) (G : α → Pr nD τ sig F Λ β)
    (hf : ∀ j s k, Prog.bind (f j s k) G = g j s fun s' => Prog.bind (k s') G) (K : σ → Pr nD τ sig F Λ α) :
    ∀ (m : ℕ) (h : m ≤ 56) (s : σ), Prog.bind (loop f m h s K) G = loop g m h s fun s' => Prog.bind (K s') G := by
  intro m
  induction m with
  | zero => intro h s; rfl
  | succ m ih =>
    intro h s
    show Prog.bind (f _ s _) G = g _ s _
    rw [hf]
    congr 1
    funext s'
    exact ih _ s'

/-- The end of the body: the block's scales, means and reciprocal roots put into their places. -/
theorem tail_wp (𝒱 : Variants) (c : Dev nD) (bd : Option 𝒱.V) (E : Set ℕ) (i : grid0.Coords)
    (arg8 arg10 arg11 : Memref sig .tc .vmem S2x512 .f32) (m rs v : FVec F S32x128 .f32) (S Mn Rs : S2x512.Idx → Elt F .f32)
    (K : PUnit → sProp 𝕄) :
    iprop((owns (c : Thread nD τ) arg8 fullShare S : sProp 𝕄) ∗ owns (c : Thread nD τ) arg10 fullShare Mn ∗ owns (c : Thread nD τ) arg11 fullShare Rs
        ∗ (iprop(owns (c : Thread nD τ) arg8 fullShare (putCols i (scaleLine i v) S) ∗ owns (c : Thread nD τ) arg10 fullShare (putCols i (meanLine i m) Mn)
            ∗ owns (c : Thread nD τ) arg11 fullShare (putCols i (rstdLine i rs) Rs)) -∗ K ⟨⟩))
      ⊢ wp frame (wpE (defs₀ (F := F)) 𝒱 (c : Thread nD τ) bd) E
          (Prog.bind (tailA i arg8 m rs v ⟨iota1, k0_pay678 (a0 i) iota0⟩) (tailB i arg10 arg11)) K := by
  unfold tailA
  simp only [Prog.bind_op, Prog.bind_ret]
  unfold tailB
  iintro ⟨H8, H10, H11, Hk⟩
  iapply (wp_load_owns 𝒱 c bd E) $$ H8; iintro H8
  iapply (wp_load_owns 𝒱 c bd E) $$ H8; iintro H8
  iapply (wp_store_owns 𝒱 c bd E) $$ H8; iintro H8
  iapply (wp_load_owns 𝒱 c bd E) $$ H10; iintro H10
  iapply (wp_load_owns 𝒱 c bd E) $$ H10; iintro H10
  iapply (wp_store_owns 𝒱 c bd E) $$ H10; iintro H10
  iapply (wp_load_owns 𝒱 c bd E) $$ H11; iintro H11
  iapply (wp_load_owns 𝒱 c bd E) $$ H11; iintro H11
  iapply (wp_store_owns 𝒱 c bd E) $$ H11; iintro H11
  rw [wp_ret]; imodintro
  iapply Hk
  isplitl [H8]; · iexact H8
  isplitl [H10]; · iexact H10
  iexact H11

/-- One run of the body. -/
theorem body_wp (𝒱 : Variants) (c : Dev nD) (bd : Option 𝒱.V) (E : Set ℕ) (i : grid0.Coords) (arg1 : Memref sig .tc .vmem S32x7168 .bf16) (harg1 : arg1.IsWhole) (arg2 : Memref sig .tc .vmem S32x7168 .bf16) (harg2 : arg2.IsWhole) (arg3 : Memref sig .tc .vmem S1x7168 .f32) (harg3 : arg3.IsWhole) (arg4 : Memref sig .tc .vmem S32x7168 .i32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S32x7168 .fp8e4m3) (harg7 : arg7.IsWhole) (arg8 : Memref sig .tc .vmem S2x512 .f32) (harg8 : arg8.IsWhole) (arg9 : Memref sig .tc .vmem S32x7168 .i8) (harg9 : arg9.IsWhole) (arg10 : Memref sig .tc .vmem S2x512 .f32) (harg10 : arg10.IsWhole) (arg11 : Memref sig .tc .vmem S2x512 .f32) (harg11 : arg11.IsWhole) (arg12 : Memref sig .tc .vmem S32x7168 .bf16) (harg12 : arg12.IsWhole) (arg13 : Memref sig .tc .vmem S32x7168 .f32) (harg13 : arg13.IsWhole) (arg14 : Memref sig .tc .vmem S448x128 .i32) (harg14 : arg14.IsWhole)
    (X A : S32x7168.Idx → Elt F .bf16) (B : S1x7168.Idx → Elt F .f32) (R : S32x7168.Idx → Elt F .i32)
    (G Be : S1x7168.Idx → Elt F .f32) (C : S32x7168.Idx → Elt F .fp8e4m3) (S Mn Rs : S2x512.Idx → Elt F .f32) (M : S32x7168.Idx → Elt F .i8)
    (H : S32x7168.Idx → Elt F .bf16) (f0 : S32x7168.Idx → Elt F .f32) (W : S448x128.Idx → Elt F .i32)
    (s : ℕ) (hs : s = place i) (K : PUnit → sProp 𝕄) :
    iprop((owns (c : Thread nD τ) arg1 fullShare X : sProp 𝕄) ∗ owns (c : Thread nD τ) arg2 fullShare A ∗ owns (c : Thread nD τ) arg3 fullShare B ∗ owns (c : Thread nD τ) arg4 fullShare R ∗ owns (c : Thread nD τ) arg5 fullShare G ∗ owns (c : Thread nD τ) arg6 fullShare Be ∗ owns (c : Thread nD τ) arg7 fullShare C ∗ owns (c : Thread nD τ) arg8 fullShare S ∗ owns (c : Thread nD τ) arg9 fullShare M ∗ owns (c : Thread nD τ) arg10 fullShare Mn ∗ owns (c : Thread nD τ) arg11 fullShare Rs ∗ owns (c : Thread nD τ) arg12 fullShare H ∗ owns (c : Thread nD τ) arg13 fullShare f0 ∗ owns (c : Thread nD τ) arg14 fullShare W
        ∗ (iprop(owns (c : Thread nD τ) arg1 fullShare X ∗ owns (c : Thread nD τ) arg2 fullShare A ∗ owns (c : Thread nD τ) arg3 fullShare B ∗ owns (c : Thread nD τ) arg4 fullShare R ∗ owns (c : Thread nD τ) arg5 fullShare G ∗ owns (c : Thread nD τ) arg6 fullShare Be ∗ owns (c : Thread nD τ) arg7 fullShare (codesV X A B R G Be) ∗ owns (c : Thread nD τ) arg8 fullShare (putCols i (scaleLine i (vV X A B R G Be)) S) ∗ owns (c : Thread nD τ) arg9 fullShare (if k0_cond1 i = 1#1 then whole (fun j => (pays (F := F)).mask (tileW (wordsV R s W) j)) else M) ∗ owns (c : Thread nD τ) arg10 fullShare (putCols i (meanLine i (meanV X A B R)) Mn) ∗ owns (c : Thread nD τ) arg11 fullShare (putCols i (rstdLine i (rstdV X A B R)) Rs) ∗ owns (c : Thread nD τ) arg12 fullShare (whole (hV X A B R)) ∗ (∃ f', owns (c : Thread nD τ) arg13 fullShare f') ∗ owns (c : Thread nD τ) arg14 fullShare (wordsV R s W)) -∗ K ⟨⟩))
      ⊢ wp frame (wpE (defs₀ (F := F)) 𝒱 (c : Thread nD τ) bd) E (cc0_bda_ln_fp8 (F := F) i arg1 harg1 arg2 harg2 arg3 harg3 arg4 harg4 arg5 harg5 arg6 harg6 arg7 harg7 arg8 harg8 arg9 harg9 arg10 harg10 arg11 harg11 arg12 harg12 arg13 harg13 arg14 harg14) K := by
  have hs8 : s < 8 := by subst hs; exact Nat.mod_lt _ (by decide)
  rw [show cc0_bda_ln_fp8 (F := F) = cc0_bda_ln_fp8_skel from cc0_bda_ln_fp8_eq_skeleton, eq_folded]
  unfold folded
  iintro ⟨H1, H2, H3, H4, H5, H6, H7, H8, H9, H10, H11, H12, H13, H14, Hk⟩
  iapply (wp_loop1 𝒱 c bd E pays s hs8 (fun j => (woff_eq i j).trans (by rw [hs])) R A X H B W zero _)
  isplitl [H1]; · iexact H1
  isplitl [H2]; · iexact H2
  isplitl [H3]; · iexact H3
  isplitl [H4]; · iexact H4
  isplitl [H12]; · iexact H12
  isplitl [H14]; · iexact H14
  iintro ⟨H1, H2, H3, H4, H12, H14⟩
  iapply (wp_loop2 𝒱 c bd E pays (meanV X A B R) (hV X A B R) (whole (hV X A B R)) (tileB_whole _) f0 zero _)
  isplitl [H12]; · iexact H12
  isplitl [H13]; · iexact H13
  iintro ⟨H12, H13⟩
  iapply (wp_loop3 𝒱 c bd E pays (rstdV X A B R) (cV X A B R) (whole (cV X A B R)) (tileB_whole _) G Be zero _)
  isplitl [H13]; · iexact H13
  isplitl [H5]; · iexact H5
  isplitl [H6]; · iexact H6
  iintro ⟨H13, H5, H6⟩
  iapply (wp_loop4 𝒱 c bd E pays (invOf (vV X A B R G Be)) (yV X A B R G Be) (whole (yV X A B R G Be)) (tileB_whole _) C _)
  isplitl [H13]; · iexact H13
  isplitl [H7]; · iexact H7
  iintro ⟨H13, H7⟩
  by_cases hc : k0_cond1 i = 1#1
  · rw [dif_pos hc, loop_bind _ (tile5 pays arg14 arg9 (storesMask arg9 harg9)) _ (fun _ _ _ => rfl),
      loop_bind _ (tile5 pays arg14 arg9 (storesMask arg9 harg9)) _ (fun _ _ _ => rfl)]
    iapply (wp_loop5 𝒱 c bd E pays (wordsV R s W) M _)
    isplitl [H14]; · iexact H14
    isplitl [H9]; · iexact H9
    iintro ⟨H14, H9⟩
    iapply (tail_wp 𝒱 c bd E i arg8 arg10 arg11 (meanV X A B R) (rstdV X A B R) (vV X A B R G Be) S Mn Rs K)
    isplitl [H8]; · iexact H8
    isplitl [H10]; · iexact H10
    isplitl [H11]; · iexact H11
    iintro ⟨H8, H10, H11⟩
    iapply Hk
    rw [if_pos hc]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexact H14
  · rw [dif_neg hc]
    iapply (tail_wp 𝒱 c bd E i arg8 arg10 arg11 (meanV X A B R) (rstdV X A B R) (vV X A B R G Be) S Mn Rs K)
    isplitl [H8]; · iexact H8
    isplitl [H10]; · iexact H10
    isplitl [H11]; · iexact H11
    iintro ⟨H8, H10, H11⟩
    iapply Hk
    rw [if_neg hc]
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    iexact H14

end Cert.KernelIdeal.Body

end
-- ==== Proof.RunPI.lean ====
/- The run of the whole pipeline: what each window's buffer holds around every grid point, the body's obligation,
   and the launch. -/
module

public import proofs.«01_k».proof.Proof.BodyPI
public import proofs.«01_k».proof.Proof.Gen.KernelIdeal.Frame

@[expose] public section

set_option maxRecDepth 16384

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)
open Cert.Fold Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The grid -/

theorem coord_val : ∀ t : Fin cfg0.N, (cfg0.grid.coords t 0).val = t.val := by decide +kernel
theorem cond_iff : ∀ t : Fin cfg0.N, k0_cond1 (cfg0.grid.coords t) = 1#1 ↔ t.val % 8 = 7 := by decide +kernel

theorem place_eq (t : Fin cfg0.N) : place (cfg0.grid.coords t) = t.val % 8 := by unfold place; rw [coord_val]

/-! ## The blocks -/

abbrev bX (c : Dev nD) (t : Fin cfg0.N) : S32x7168.Idx → Elt F .bf16 := iblk m c 0 t
abbrev bA (c : Dev nD) (t : Fin cfg0.N) : S32x7168.Idx → Elt F .bf16 := iblk m c 1 t
abbrev bB (c : Dev nD) (t : Fin cfg0.N) : S1x7168.Idx → Elt F .f32 := iblk m c 2 t
abbrev bR (c : Dev nD) (t : Fin cfg0.N) : S32x7168.Idx → Elt F .i32 := iblk m c 3 t
abbrev bG (c : Dev nD) (t : Fin cfg0.N) : S1x7168.Idx → Elt F .f32 := iblk m c 4 t
abbrev bBe (c : Dev nD) (t : Fin cfg0.N) : S1x7168.Idx → Elt F .f32 := iblk m c 5 t

/-- The random bits' block at the point of number `n`. -/
def randAt (c : Dev nD) (n : ℕ) : S32x7168.Idx → Elt F .i32 := bR m c ⟨n % 32, Nat.mod_lt _ (by decide)⟩

theorem randAt_val (c : Dev nD) (t : Fin cfg0.N) : randAt m c t.val = bR m c t := by
  have h : t.val % 32 = t.val := Nat.mod_eq_of_lt t.isLt
  unfold randAt
  congr 1
  exact Fin.ext h

/-- The words of the eight points of group `g`. -/
def wordsAt (c : Dev nD) (g : ℕ) : S448x128.Idx → Elt F .i32 := fun i =>
  wordTile pays (randAt m c (8 * g + (i 0).val % 8)) ⟨(i 0).val / 8, by have : (i 0).val < 448 := (i 0).isLt; omega⟩
    (fun a => match a with
      | ⟨0, _⟩ => (⟨0, by decide⟩ : Fin 1)
      | ⟨1, _⟩ => (⟨(i 1).val, (i 1).isLt⟩ : Fin 128))

/-- Before point `t` the words' scratch holds the words of the points of `t`'s group before it. -/
def WordsOk (c : Dev nD) (t : ℕ) (W : S448x128.Idx → Elt F .i32) : Prop :=
  ∀ i : S448x128.Idx, (i 0).val % 8 < t % 8 → W i = wordsAt m c (t / 8) i

theorem words_upd (c : Dev nD) (t : Fin cfg0.N) (W : S448x128.Idx → Elt F .i32) (h : WordsOk m c t.val W) (i : S448x128.Idx)
    (hi : (i 0).val % 8 ≤ t.val % 8) : wordsV (bR m c t) (t.val % 8) W i = wordsAt m c (t.val / 8) i := by
  have h0 : (i 0).val < 448 := (i 0).isLt
  unfold wordsV wordsUpTo
  by_cases e : (i 0).val % 8 = t.val % 8
  · rw [if_pos (by constructor <;> omega)]
    unfold wordsAt
    rw [e, show 8 * (t.val / 8) + t.val % 8 = t.val by omega, randAt_val]
    rfl
  · rw [if_neg (by omega)]
    exact h i (by omega)

theorem words_succ (c : Dev nD) (t : Fin cfg0.N) (W : S448x128.Idx → Elt F .i32) (h : WordsOk m c t.val W) :
    WordsOk m c (t.val + 1) (wordsV (bR m c t) (t.val % 8) W) := by
  intro i hi
  have e : (t.val + 1) / 8 = t.val / 8 := by omega
  rw [e]
  exact words_upd m c t W h i (by omega)

theorem words_full (c : Dev nD) (t : Fin cfg0.N) (W : S448x128.Idx → Elt F .i32) (h : WordsOk m c t.val W) (ht : t.val % 8 = 7) :
    wordsV (bR m c t) (t.val % 8) W = wordsAt m c (t.val / 8) := by
  funext i
  exact words_upd m c t W h i (by omega)

/-! ## The proof data -/

def codesAt (c : Dev nD) (t : Fin cfg0.N) : S32x7168.Idx → Elt F .fp8e4m3 :=
  codesV (bX m c t) (bA m c t) (bB m c t) (bR m c t) (bG m c t) (bBe m c t)
def hAt (c : Dev nD) (t : Fin cfg0.N) : S32x7168.Idx → Elt F .bf16 := whole (hV (bX m c t) (bA m c t) (bB m c t) (bR m c t))
def maskAt (c : Dev nD) (g : ℕ) : S32x7168.Idx → Elt F .i8 := whole fun j => (pays (F := F)).mask (tileW (wordsAt m c g) j)
def scalesUpd (c : Dev nD) (t : Fin cfg0.N) (S : S2x512.Idx → Elt F .f32) : S2x512.Idx → Elt F .f32 :=
  putCols (cfg0.grid.coords t) (scaleLine (cfg0.grid.coords t) (vV (bX m c t) (bA m c t) (bB m c t) (bR m c t) (bG m c t) (bBe m c t))) S
def meanUpd (c : Dev nD) (t : Fin cfg0.N) (S : S2x512.Idx → Elt F .f32) : S2x512.Idx → Elt F .f32 :=
  putCols (cfg0.grid.coords t) (meanLine (cfg0.grid.coords t) (meanV (bX m c t) (bA m c t) (bB m c t) (bR m c t))) S
def rstdUpd (c : Dev nD) (t : Fin cfg0.N) (S : S2x512.Idx → Elt F .f32) : S2x512.Idx → Elt F .f32 :=
  putCols (cfg0.grid.coords t) (rstdLine (cfg0.grid.coords t) (rstdV (bX m c t) (bA m c t) (bB m c t) (bR m c t))) S

/-- What the body leaves in window `w`'s buffer at point `t`, given what it found there. -/
def after (c : Dev nD) (w : Fin cfg0.W) (t : Fin cfg0.N) (Y X : (cfg0.win w).block.Idx → Elt F (cfg0.win w).elt) : Prop :=
  match w with
  | ⟨0, _⟩ => X = Y
  | ⟨1, _⟩ => X = Y
  | ⟨2, _⟩ => X = Y
  | ⟨3, _⟩ => X = Y
  | ⟨4, _⟩ => X = Y
  | ⟨5, _⟩ => X = Y
  | ⟨6, _⟩ => X = codesAt m c t
  | ⟨7, _⟩ => X = scalesUpd m c t Y
  | ⟨8, _⟩ => t.val % 8 = 7 → X = maskAt m c (t.val / 8)
  | ⟨9, _⟩ => X = meanUpd m c t Y
  | ⟨10, _⟩ => X = rstdUpd m c t Y
  | ⟨11, _⟩ => X = hAt m c t
  | ⟨_ + 12, _⟩ => True

abbrev scF : Memref sig .tc .vmem S32x7168 .f32 := Memref.whole cc0_scratch0
abbrev scW : Memref sig .tc .vmem S448x128 .i32 := Memref.whole cc0_scratch1

/-- The scratch and the generator register before point `t`. -/
def Phi (c : Dev nD) (t : ℕ) : sProp 𝕄 :=
  iprop(((∃ f, owns (c : Thread nD τ) scF fullShare f) ∗ (∃ W, ⌜WordsOk m c t W⌝ ∗ owns (c : Thread nD τ) scW fullShare W)) ∗ ∃ r, prngReg c r)

def rdat (c : Dev nD) : RDat τ (Elt F) Unit ℕ (UR sig nD τ) ℕ cfg0 c where
  A w := V m c (Pipeline.arrRef spec0 w)
  after w t Y X := after m c w t Y X
  Φ t := Phi m c t.val
  q _ := fullShare
  owed _ := 0

/-! ## The body's obligation -/

theorem find0 (c : Dev nD) (t : Fin cfg0.N) (Y) (h : (rdat m c).Finds 0 t Y) : Y = bX m c t := by
  obtain ⟨d, rfl⟩ := (rdat m c).finds_in_eq_fetched 0 rfl (fun _ _ _ => rfl) (fun _ _ _ h => h) t Y h
  rfl
theorem find1 (c : Dev nD) (t : Fin cfg0.N) (Y) (h : (rdat m c).Finds 1 t Y) : Y = bA m c t := by
  obtain ⟨d, rfl⟩ := (rdat m c).finds_in_eq_fetched 1 rfl (fun _ _ _ => rfl) (fun _ _ _ h => h) t Y h
  rfl
theorem find2 (c : Dev nD) (t : Fin cfg0.N) (Y) (h : (rdat m c).Finds 2 t Y) : Y = bB m c t := by
  obtain ⟨d, rfl⟩ := (rdat m c).finds_in_eq_fetched 2 rfl (fun _ _ _ => rfl) (fun _ _ _ h => h) t Y h
  rfl
theorem find3 (c : Dev nD) (t : Fin cfg0.N) (Y) (h : (rdat m c).Finds 3 t Y) : Y = bR m c t := by
  obtain ⟨d, rfl⟩ := (rdat m c).finds_in_eq_fetched 3 rfl (fun _ _ _ => rfl) (fun _ _ _ h => h) t Y h
  rfl
theorem find4 (c : Dev nD) (t : Fin cfg0.N) (Y) (h : (rdat m c).Finds 4 t Y) : Y = bG m c t := by
  obtain ⟨d, rfl⟩ := (rdat m c).finds_in_eq_fetched 4 rfl (fun _ _ _ => rfl) (fun _ _ _ h => h) t Y h
  rfl
theorem find5 (c : Dev nD) (t : Fin cfg0.N) (Y) (h : (rdat m c).Finds 5 t Y) : Y = bBe m c t := by
  obtain ⟨d, rfl⟩ := (rdat m c).finds_in_eq_fetched 5 rfl (fun _ _ _ => rfl) (fun _ _ _ h => h) t Y h
  rfl

/-- The body table's row at the point. -/
theorem defs₀_row (t : Fin cfg0.N) : defs₀ (F := F) .tc cfg0.body (cfg0.bodyArgs t (cfg0.slots t)) = bodyAt0 t := by
  unfold defs₀; rw [Defs.onTc_tc]

set_option maxHeartbeats 2000000 in
theorem body_obligation (c : Dev nD) : (rdat m c).BodyObligation (defs₀ (F := F)) Variants.none () Set.univ := by
  intro t Y hY
  rw [bigSep_W0, bigSep_W0, defs₀_row]
  have e0 := find0 m c t (Y 0) (hY 0)
  have e1 := find1 m c t (Y 1) (hY 1)
  have e2 := find2 m c t (Y 2) (hY 2)
  have e3 := find3 m c t (Y 3) (hY 3)
  have e4 := find4 m c t (Y 4) (hY 4)
  have e5 := find5 m c t (Y 5) (hY 5)
  rw [show (rdat m c).owesAt () t.succ = (rdat m c).owesAt () t.castSucc from rfl,
    show (rdat m c).Φ t.succ = Phi m c (t.val + 1) from rfl, show (rdat m c).Φ t.castSucc = Phi m c t.val from rfl]
  unfold Phi
  iintro ⟨⟨⟨⟨%f0, Hf⟩, ⟨%W, %hW, Hw⟩⟩, Hg⟩, Ho, H0, H1, H2, H3, H4, H5, H6, H7, H8, H9, H10, H11⟩
  iapply (body_wp (𝒱 := Variants.none) (c := c) (bd := none) (E := Set.univ) (i := grid0.coords t) (X := Y 0) (A := Y 1) (B := Y 2) (R := Y 3)
    (G := Y 4) (Be := Y 5) (C := Y 6) (S := Y 7) (M := Y 8) (Mn := Y 9) (Rs := Y 10) (H := Y 11) (f0 := f0) (W := W)
    (s := t.val % 8) (hs := (place_eq t).symm))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [Hf]; · iexact Hf
  isplitl [Hw]; · iexact Hw
  iintro ⟨H0, H1, H2, H3, H4, H5, H6, H7, H8, H9, H10, H11, Hf, Hw⟩
  isplitl [Hf Hw Hg]
  · isplitl [Hf Hw]
    · isplitl [Hf]
      · icases Hf with ⟨%f', Hf⟩; iexists f'; iexact Hf
      · iexists _
        isplitr
        swap
        · iexact Hw
        · ipureintro
          rw [e3]; exact words_succ m c t W hW
    · iexact Hg
  isplitl [Ho]; · iexact Ho
  isplitl [H0]
  · iexists _; isplitr; swap; · iexact H0
    ipureintro; exact (rfl : Y 0 = Y 0)
  isplitl [H1]
  · iexists _; isplitr; swap; · iexact H1
    ipureintro; exact (rfl : Y 1 = Y 1)
  isplitl [H2]
  · iexists _; isplitr; swap; · iexact H2
    ipureintro; exact (rfl : Y 2 = Y 2)
  isplitl [H3]
  · iexists _; isplitr; swap; · iexact H3
    ipureintro; exact (rfl : Y 3 = Y 3)
  isplitl [H4]
  · iexists _; isplitr; swap; · iexact H4
    ipureintro; exact (rfl : Y 4 = Y 4)
  isplitl [H5]
  · iexists _; isplitr; swap; · iexact H5
    ipureintro; exact (rfl : Y 5 = Y 5)
  isplitl [H6]
  · iexists _; isplitr; swap; · iexact H6
    ipureintro
    show _ = codesAt m c t
    rw [e0, e1, e2, e3, e4, e5]; rfl
  isplitl [H7]
  · iexists _; isplitr; swap; · iexact H7
    ipureintro
    show _ = scalesUpd m c t (Y 7)
    rw [e0, e1, e2, e3, e4, e5]; rfl
  isplitl [H8]
  · iexists _; isplitr; swap; · iexact H8
    ipureintro
    show t.val % 8 = 7 → _ = maskAt m c (t.val / 8)
    intro ht
    rw [if_pos ((cond_iff t).mpr ht), e3, words_full m c t W hW ht]; rfl
  isplitl [H9]
  · iexists _; isplitr; swap; · iexact H9
    ipureintro
    show _ = meanUpd m c t (Y 9)
    rw [e0, e1, e2, e3]; rfl
  isplitl [H10]
  · iexists _; isplitr; swap; · iexact H10
    ipureintro
    show _ = rstdUpd m c t (Y 10)
    rw [e0, e1, e2, e3]; rfl
  · iexists _; isplitr; swap; · iexact H11
    ipureintro
    show _ = hAt m c t
    rw [e0, e1, e2, e3]; rfl

/-! ## The launch -/

theorem phi_zero (c : Dev nD) : Pipeline.ΦA (cfgs 0).spec c ⊢ (rdat m c).Φ 0 := by
  show (Pipeline.ΦA spec0 c : sProp 𝕄) ⊢ Phi m c 0
  unfold Pipeline.ΦA Phi
  rw [scopedRest0_eq]
  simp only [owns_whole]
  iintro ⟨⟨⟨%f, Hf⟩, ⟨%w, Hw⟩⟩, Hg⟩
  isplitl [Hf Hw]
  · isplitl [Hf]
    · iexists f; iexact Hf
    · iexists w
      isplitr
      · ipureintro; intro i hi; omega
      · iexact Hw
  · iexact Hg

theorem phi_last (c : Dev nD) : (rdat m c).Φ (Fin.last (cfgs 0).N) ⊢ Pipeline.ΦA (cfgs 0).spec c := by
  show (Phi m c (Fin.last (cfgs 0).N).val : sProp 𝕄) ⊢ Pipeline.ΦA spec0 c
  unfold Pipeline.ΦA Phi
  rw [scopedRest0_eq]
  simp only [owns_whole]
  iintro ⟨⟨⟨%f, Hf⟩, ⟨%w, %hw, Hw⟩⟩, Hg⟩
  isplitl [Hf Hw]
  · isplitl [Hf]
    · iexists f; iexact Hf
    · iexists w; iexact Hw
  · iexact Hg

set_option backward.isDefEq.respectTransparency.types false in
/-- Every execution ends with the arrays at contents that the body's relations allow, everything else unchanged and
    every counter at zero. -/
theorem run_main :
    θ_run defs (onTc (τ := τ) (main (F := F))) (s₀ m ρ)
      (fun r => RDat.FramePost (cfgs 0) (fun c => rdat m c) (V m) r ∧ r.2.sem = fun _ => 0) :=
  RDat.θ_run_frame_track (Q' := _) cfgs (0 : Fin 1) launch0 defs₀ Variants.none (fun c => rdat m c) m ρ main
    (hbody := body_obligation m) (hshare := fun c w => by show (if _ then _ else _) = _; split <;> rfl)
    (howed := fun _ _ => rfl) (V := V m) (hmain := hmain m Variants.none) (hA := fun _ _ => rfl)
    (hin := phi_zero m) (hout := phi_last m)

/-- The argument arrays end unchanged and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
     ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩, h.2⟩) (run_main m ρ)

end Cert.KernelIdeal.Body

end
-- ==== Proof.Spec.lean ====
/- The mathematics of one token, over the extended reals: what both programs compute. -/
module

public import Idealize.ShloMosaic.PureOps
public import Idealize.ShloMosaic.PureOps.Ideal
public import Idealize.ShloMosaic.Lib.Pointwise

@[expose] public section

noncomputable section

namespace Cert.Spec

open Idealize.ShloMosaic
open scoped BigOperators

/-- A token's row of features. -/
abbrev Row := Fin 7168 → EReal

/-- Whether the dropout keeps an element: its random word is not below the threshold. -/
def keep (r : BitVec 32) : BitVec 1 := IntOp.cmpi .uge r 429496730#32

/-- The residual sum of one element. -/
def resid (r : BitVec 32) (a b x : EReal) : EReal :=
  x + Scalar.select (keep r) ((a + b) * Ideal.ofBits .f32 0x3F8E38E4#32) 0

/-- The mean of a row. -/
def mean (h : Row) : EReal := (∑ k, h k) * ((1 / 7168 : ℝ) : EReal)

/-- A row less its mean. -/
def centred (h : Row) : Row := fun k => h k - mean h

/-- The variance of a row, and the small constant added to it. -/
def varEps (h : Row) : EReal := (∑ k, centred h k * centred h k) * ((1 / 7168 : ℝ) : EReal) + Ideal.ofBits .f32 0x3727C5AC#32

/-- The reciprocal root of the variance. -/
def rstd (h : Row) : EReal := Ideal.rsqrt (varEps h)

/-- The normalised row. -/
def norm (h g b : Row) : Row := fun k => centred h k * rstd h * g k + b k

/-- The largest magnitude of a row. -/
def amax (y : Row) : EReal := Finset.univ.fold max ⊥ fun k => max (y k) (-(y k))

/-- The largest magnitude over the largest code. -/
def ratio (y : Row) : EReal := amax y * Ideal.ofBits .f32 0x3B124925#32

/-- The exponent of the scale: one more than the floor of the binary logarithm, or zero where the ratio is below the
    smallest normal number. -/
def expo (v : EReal) : EReal :=
  if v < Ideal.ofBits .f32 0x00800000#32 then 0
  else Ideal.liftRound Int.floor (Ideal.div (Ideal.log v) (Ideal.log (Ideal.ofBits .f32 0x40000000#32))) + 1

/-- The scale. -/
def scale (v : EReal) : EReal := Ideal.pow (Ideal.ofBits .f32 0x40000000#32) (expo v)

/-- The reciprocal of the scale. -/
def invScale (v : EReal) : EReal := Ideal.pow (Ideal.ofBits .f32 0x40000000#32) (-(expo v))

/-- The code of one element. -/
def code (y inv : EReal) : EReal := min (Ideal.ofBits .f32 0x43E00000#32) (max (Ideal.ofBits .f32 0xC3E00000#32) (y * inv))

/-- The mask byte of eight tokens' elements, token `j` in bit `j`. -/
def maskByte (r : Fin 8 → BitVec 32) : BitVec 8 :=
  BitVec.setWidth 8 (Finset.univ.fold IntOp.addi (0#32) fun j : Fin 8 =>
    IntOp.shli .host (BitVec.setWidth 32 (keep (r j))) (BitVec.ofNat 32 j.val))

end Cert.Spec

end
-- ==== Proof.TileVals.lean ====
/- What the body computes on one block, element by element, over the extended reals. -/
module

public import proofs.«01_k».proof.Proof.Spec
public import proofs.«01_k».proof.Proof.BodyPI
public import Idealize.ShloMosaic.Lib.Pointwise
public import Idealize.ShloMosaic.Lib.IdealHost

@[expose] public section

set_option maxRecDepth 16384

noncomputable section

namespace Cert.KernelIdeal.Body

open Idealize.ShloMosaic Idealize.ShloMosaic.TcCoe
open Cert.Fold Cert.KernelIdeal Cert.KernelIdeal.Gen
open scoped BigOperators

/-- The column of lane `l` of tile `j`. -/
abbrev col (j : Fin 56) (l : Fin 128) : Fin 7168 := ⟨128 * j.val + l.val, by omega⟩

theorem tileB_at {α : Type} (X : SB.Idx → α) (j : Fin 56) (r : Fin 32) (l : Fin 128) :
    tileB X j (ix2 r l) = X (ix2 r (col j l)) := by
  rw [tileB_apply]
  congr 1
  funext a
  apply Fin.ext
  match a with
  | ⟨0, _⟩ => show 0 + 1 * r.val = r.val; omega
  | ⟨1, _⟩ => show 128 * j.val + 1 * l.val = 128 * j.val + l.val; omega

theorem tileR_at {α : Type} (X : SR.Idx → α) (j : Fin 56) (l : Fin 128) :
    tileR X j (ix2 0 l) = X (ix2 0 (col j l)) := by
  show X _ = X _
  congr 1
  funext a
  apply Fin.ext
  match a with
  | ⟨0, _⟩ => rfl
  | ⟨1, _⟩ => show 128 * j.val + 1 * l.val = 128 * j.val + l.val; omega

theorem whole_at {α : Type} (V : Fin 56 → ST.Idx → α) (r : Fin 32) (k : Fin 7168) :
    whole V (ix2 r k) = V ⟨k.val / 128, by omega⟩ (ix2 r (⟨k.val % 128, by omega⟩ : Fin 128)) := by
  unfold whole
  congr 1
  funext a
  match a with
  | ⟨0, _⟩ => rfl
  | ⟨1, _⟩ => rfl

variable (X A : S32x7168.Idx → Elt Ideal .bf16) (B : S1x7168.Idx → Elt Ideal .f32) (R : S32x7168.Idx → Elt Ideal .i32)
variable (G Be : S1x7168.Idx → Elt Ideal .f32)

/-- The residual sums of row `r` of the block. -/
def rowB (r : Fin 32) : Spec.Row := fun k =>
  Spec.resid (R (ix2 r k) : BitVec 32) (A (ix2 r k) : EReal) (B (ix2 (0 : Fin 1) k) : EReal) (X (ix2 r k) : EReal)

/-- The normalised elements of row `r` of the block. -/
def normB (r : Fin 32) : Spec.Row :=
  Spec.norm (rowB X A B R r) (fun k => (G (ix2 (0 : Fin 1) k) : EReal)) (fun k => (Be (ix2 (0 : Fin 1) k) : EReal))

theorem pay_h (r : Vec Ideal ST .i32) (a : Vec Ideal ST .bf16) (b : Vec Ideal SRT .f32) (x : Vec Ideal ST .bf16) (i : Fin 32) (l : Fin 128) :
    ((pays (F := Ideal)).h r a b x (ix2 i l) : EReal) = Spec.resid (r (ix2 i l)) (a (ix2 i l)) (b (ix2 (0 : Fin 1) l)) (x (ix2 i l)) := by
  show k0_pay63 r a b x (ix2 i l) = _
  unfold_payloads
  pointwise
  rfl

theorem pay_acc1 (acc : FVec Ideal ST .f32) (h : Vec Ideal ST .bf16) (y : ST.Idx) :
    ((pays (F := Ideal)).acc1 acc h y : EReal) = (acc y : EReal) + (h y : EReal) := rfl

theorem pay_acc2 (acc c : FVec Ideal ST .f32) (y : ST.Idx) :
    ((pays (F := Ideal)).acc2 acc c y : EReal) = (acc y : EReal) + (c y : EReal) * (c y : EReal) := rfl

theorem pay_acc3 (acc y : FVec Ideal ST .f32) (i : ST.Idx) :
    ((pays (F := Ideal)).acc3 acc y i : EReal) = max (acc i : EReal) (max (y i : EReal) (-(y i : EReal))) := rfl

theorem pay_c (m : FVec Ideal ST .f32) (h : Vec Ideal ST .bf16) (i : Fin 32) (l : Fin 128) :
    ((pays (F := Ideal)).c m h (ix2 i l) : EReal) = (h (ix2 i l) : EReal) - (m (ix2 i l) : EReal) := by
  show k0_pay339 m h (ix2 i l) = _
  unfold_payloads
  pointwise

theorem pay_y (rs : FVec Ideal ST .f32) (f : Vec Ideal ST .f32) (g b : Vec Ideal SRT .f32) (i : Fin 32) (l : Fin 128) :
    ((pays (F := Ideal)).y rs f g b (ix2 i l) : EReal)
      = (f (ix2 i l) : EReal) * (rs (ix2 i l) : EReal) * (g (ix2 (0 : Fin 1) l) : EReal) + (b (ix2 (0 : Fin 1) l) : EReal) := by
  unfold pays
  pointwise

theorem pay_st (v : FVec Ideal ST .f32) (i : Fin 32) (l : Fin 128) : (pays (F := Ideal)).st v (ix2 i l) = v (ix2 i l) := by
  unfold pays
  pointwise

theorem pay_code (inv : FVec Ideal ST .f32) (f : Vec Ideal ST .f32) (i : Fin 32) (l : Fin 128) :
    ((pays (F := Ideal)).code inv f (ix2 i l) : EReal) = Spec.code (f (ix2 i l)) (inv (ix2 i l)) := by
  show k0_pay674 inv f (ix2 i l) = _
  unfold_payloads
  pointwise
  rfl

theorem named_width : (Named.named (F := Ideal) (φ := .f32) κ "inv_d" 0x39124925#32 : EReal) = ((1 / 7168 : ℝ) : EReal) := rfl

theorem meanOf_at (acc : FVec Ideal S32x128 .f32) (i : Fin 32) (l : Fin 128) :
    (meanOf acc (ix2 i l) : EReal) = (∑ l : Fin 128, (acc (ix2 i l) : EReal)) * ((1 / 7168 : ℝ) : EReal) := by
  unfold meanOf
  pointwise
  rw [named_width]

theorem rstdOf_at (acc : FVec Ideal S32x128 .f32) (i : Fin 32) (l : Fin 128) :
    (rstdOf acc (ix2 i l) : EReal)
      = Ideal.rsqrt ((∑ l : Fin 128, (acc (ix2 i l) : EReal)) * ((1 / 7168 : ℝ) : EReal) + Ideal.ofBits .f32 0x3727C5AC#32) := by
  unfold rstdOf
  unfold_payloads
  pointwise
  rw [named_width]

theorem vOf_at (acc : FVec Ideal S32x128 .f32) (i : Fin 32) (l : Fin 128) :
    (vOf acc (ix2 i l) : EReal)
      = (Finset.univ.fold max (Ideal.ofBits .f32 0xFF800000#32) fun l : Fin 128 => (acc (ix2 i l) : EReal)) * Ideal.ofBits .f32 0x3B124925#32 := by
  unfold vOf
  pointwise

/-! ## The running sums -/

theorem accum_add (g : Fin 56 → FVec Ideal ST .f32 → FVec Ideal ST .f32) (f : Fin 56 → EReal) (z : FVec Ideal ST .f32) (y : ST.Idx)
    (h : ∀ j a, (g j a y : EReal) = (a y : EReal) + f j) (hz : (z y : EReal) = 0) : (accum g z 56 y : EReal) = ∑ j, f j := by
  have H : ∀ n (hn : n ≤ 56), (accum g z n y : EReal) = ∑ j : Fin n, f (Fin.castLE hn j) := by
    intro n
    induction n with
    | zero => intro hn; exact hz.trans (by simp)
    | succ n ih =>
      intro hn
      have hn' : n < 56 := hn
      show ((if h : n < 56 then g ⟨n, h⟩ (accum g z n) else accum g z n) y : EReal) = _
      rw [dif_pos hn', h, ih (le_of_lt hn'), Fin.sum_univ_castSucc]
      rfl
  exact H 56 (le_refl _)

theorem accum_max (g : Fin 56 → FVec Ideal ST .f32 → FVec Ideal ST .f32) (f : Fin 56 → EReal) (z : FVec Ideal ST .f32) (y : ST.Idx)
    (h : ∀ j a, (g j a y : EReal) = max (a y : EReal) (f j)) (u : EReal) :
    (accum g z 56 y : EReal) ≤ u ↔ (z y : EReal) ≤ u ∧ ∀ j, f j ≤ u := by
  have H : ∀ n (hn : n ≤ 56), (accum g z n y : EReal) ≤ u ↔ (z y : EReal) ≤ u ∧ ∀ j : Fin n, f (Fin.castLE hn j) ≤ u := by
    intro n
    induction n with
    | zero => intro hn; exact ⟨fun a => ⟨a, fun j => j.elim0⟩, fun a => a.1⟩
    | succ n ih =>
      intro hn
      have hn' : n < 56 := hn
      show ((if h : n < 56 then g ⟨n, h⟩ (accum g z n) else accum g z n) y : EReal) ≤ u ↔ _
      rw [dif_pos hn', h, max_le_iff, ih (le_of_lt hn'), Fin.forall_fin_succ']
      exact and_assoc
  exact H 56 (le_refl _)

/-- A row's sum, lane by lane and tile by tile. -/
theorem sum_cols (f : Spec.Row) : ∑ l : Fin 128, ∑ j : Fin 56, f (col j l) = ∑ k, f k := by
  rw [Finset.sum_comm, ← Fintype.sum_prod_type' (f := fun (j : Fin 56) (l : Fin 128) => f (col j l))]
  refine Fintype.sum_equiv (finProdFinEquiv (m := 56) (n := 128)) _ _ fun x => congrArg f (Fin.ext ?_)
  show 128 * x.1.val + x.2.val = x.2.val + 128 * x.1.val
  omega

theorem zero_at (y : ST.Idx) : (zero (F := Ideal) y : EReal) = 0 := Ideal.ofBits_zero_f32

theorem neg_inf : Ideal.ofBits .f32 0xFF800000#32 = (⊥ : EReal) := by
  simp [Ideal.ofBits, Ideal.ieee]

/-! ## The block's values -/

theorem hV_at (j : Fin 56) (r : Fin 32) (l : Fin 128) : (hV X A B R j (ix2 r l) : EReal) = rowB X A B R r (col j l) := by
  unfold hV hTile
  rw [pay_h]
  simp only [tileB_at, tileR_at]
  rfl

theorem hAt_at (r : Fin 32) (k : Fin 7168) : (whole (hV X A B R) (ix2 r k) : EReal) = rowB X A B R r k := by
  rw [whole_at]
  refine (hV_at X A B R _ r _).trans (congrArg _ (Fin.ext ?_))
  show 128 * (k.val / 128) + k.val % 128 = k.val
  omega

theorem meanV_at (r : Fin 32) (l : Fin 128) : (meanV X A B R (ix2 r l) : EReal) = Spec.mean (rowB X A B R r) := by
  unfold meanV
  rw [meanOf_at]
  have e : ∀ l : Fin 128, (acc1 pays (hV X A B R) zero 56 (ix2 r l) : EReal) = ∑ j, rowB X A B R r (col j l) := fun l =>
    (accum_add _ (fun j => (hV X A B R j (ix2 r l) : EReal)) _ _ (fun j a => pay_acc1 a _ _) (zero_at _)).trans
      (Finset.sum_congr rfl fun j _ => hV_at X A B R j r l)
  rw [Finset.sum_congr rfl fun l _ => e l, sum_cols]
  rfl

theorem cTile_at (j : Fin 56) (r : Fin 32) (l : Fin 128) :
    (cTile pays (hV X A B R) (meanV X A B R) j (ix2 r l) : EReal) = Spec.centred (rowB X A B R r) (col j l) := by
  unfold cTile
  rw [pay_c, hV_at, meanV_at]
  rfl

theorem cV_at (j : Fin 56) (r : Fin 32) (l : Fin 128) : (cV X A B R j (ix2 r l) : EReal) = Spec.centred (rowB X A B R r) (col j l) := by
  unfold cV
  rw [pay_st, cTile_at]

theorem rstdV_at (r : Fin 32) (l : Fin 128) : (rstdV X A B R (ix2 r l) : EReal) = Spec.rstd (rowB X A B R r) := by
  unfold rstdV
  rw [rstdOf_at]
  have e : ∀ l : Fin 128, (acc2 pays (hV X A B R) (meanV X A B R) zero 56 (ix2 r l) : EReal)
      = ∑ j, (fun k => Spec.centred (rowB X A B R r) k * Spec.centred (rowB X A B R r) k) (col j l) := fun l =>
    accum_add _ _ _ _ (fun j a => by
      rw [pay_acc2, cTile_at]) (zero_at _)
  rw [Finset.sum_congr rfl fun l _ => e l, sum_cols fun k => Spec.centred (rowB X A B R r) k * Spec.centred (rowB X A B R r) k]
  rfl

theorem yTile_at (j : Fin 56) (r : Fin 32) (l : Fin 128) :
    (yTile pays (cV X A B R) G Be (rstdV X A B R) j (ix2 r l) : EReal) = normB X A B R G Be r (col j l) := by
  unfold yTile
  rw [pay_y, cV_at, rstdV_at, tileR_at, tileR_at]
  rfl

theorem yV_at (j : Fin 56) (r : Fin 32) (l : Fin 128) : (yV X A B R G Be j (ix2 r l) : EReal) = normB X A B R G Be r (col j l) := by
  unfold yV
  rw [pay_st, yTile_at]

theorem vV_at (r : Fin 32) (l : Fin 128) : (vV X A B R G Be (ix2 r l) : EReal) = Spec.ratio (normB X A B R G Be r) := by
  unfold vV
  rw [vOf_at, neg_inf]
  unfold Spec.ratio
  congr 1
  refine eq_of_forall_ge_iff fun u => ?_
  unfold Spec.amax
  rw [Finset.fold_max_le, Finset.fold_max_le]
  have e : ∀ l : Fin 128, (acc3 pays (cV X A B R) G Be (rstdV X A B R) zero 56 (ix2 r l) : EReal) ≤ u
      ↔ (0 : EReal) ≤ u ∧ ∀ j, max (normB X A B R G Be r (col j l)) (-(normB X A B R G Be r (col j l))) ≤ u := fun l => by
    refine (accum_max _ (fun j => max (normB X A B R G Be r (col j l)) (-(normB X A B R G Be r (col j l)))) _ _
      (fun j a => ?_) u).trans (by rw [zero_at])
    rw [pay_acc3, yTile_at]
  refine and_congr Iff.rfl ⟨fun h k _ => ?_, fun h l _ => (e l).mpr ⟨?_, fun j => h (col j l) (Finset.mem_univ _)⟩⟩
  · have h1 := ((e (⟨k.val % 128, by omega⟩ : Fin 128)).mp (h _ (Finset.mem_univ _))).2 ⟨k.val / 128, by omega⟩
    have e2 : col ⟨k.val / 128, by omega⟩ (⟨k.val % 128, by omega⟩ : Fin 128) = k := Fin.ext (by
      show 128 * (k.val / 128) + k.val % 128 = k.val
      omega)
    rwa [e2] at h1
  · refine le_trans ?_ (h (⟨0, by decide⟩ : Fin 7168) (Finset.mem_univ _))
    rcases le_total 0 (normB X A B R G Be r (⟨0, by decide⟩ : Fin 7168)) with h0 | h0
    · exact le_max_of_le_left h0
    · exact le_max_of_le_right (by rwa [EReal.neg_nonneg])

theorem codesV_at (r : Fin 32) (k : Fin 7168) :
    (codesV X A B R G Be (ix2 r k) : EReal)
      = Spec.code (normB X A B R G Be r k) (invOf (vV X A B R G Be) (ix2 r (⟨k.val % 128, by omega⟩ : Fin 128)) : EReal) := by
  unfold codesV
  rw [whole_at, pay_code, yV_at]
  congr 2
  apply Fin.ext
  show 128 * (k.val / 128) + k.val % 128 = k.val
  omega

end Cert.KernelIdeal.Body

end
-- ==== Proof.Blocks.lean ====
/- The blocks the body reads, as the arguments they come from. -/
module

public import proofs.«01_k».proof.Proof.TileVals
public import proofs.«01_k».proof.Proof.RunPI
public import Idealize.ShloMosaic.Lib.StableHlo.ReadAt

@[expose] public section

set_option maxRecDepth 16384

noncomputable section

namespace Cert.KernelIdeal.Body

open Idealize.ShloMosaic Idealize.ShloMosaic.TcCoe
open Idealize.ShloMosaic.Pipeline (Dat RDat Cfg Window)
open Cert.Fold Cert.KernelIdeal Cert.KernelIdeal.Gen

variable (m : (ℓ : Loc nD τ sig) → Buf (Elt Ideal) ℓ)

/-- Token `32 t + r`'s batch. -/
abbrev tb (n : ℕ) (h : n < 1024) : Fin 2 := ⟨n / 512, by omega⟩
/-- Its place in the batch. -/
abbrev ts (n : ℕ) (_ : n < 1024) : Fin 512 := ⟨n % 512, by omega⟩

theorem rows_at : ∀ t : Fin cfg0.N, cc0_transform_0 (cfg0.grid.coords t) 0 = t.val ∧ cc0_transform_1 (cfg0.grid.coords t) 0 = t.val
    ∧ cc0_transform_3 (cfg0.grid.coords t) 0 = t.val := by decide +kernel

theorem tok_lt (t : Fin cfg0.N) (r : Fin 32) : 32 * t.val + r.val < 1024 := by
  have : t.val < 32 := t.isLt
  omega

theorem bX_v0 (c : Dev nD) (t : Fin cfg0.N) (r : Fin 32) (k : Fin 7168) :
    bX m c t (ix2 r k) = (V m c main_v0 : FVec Ideal S1024x7168 .bf16) (ix2 (⟨32 * t.val + r.val, tok_lt t r⟩ : Fin 1024) k) := by
  show (V m c main_v0 : FVec Ideal S1024x7168 .bf16) _ = _
  congr 1
  funext a
  apply Fin.ext
  match a with
  | ⟨0, _⟩ =>
    show cc0_transform_0 (cfg0.grid.coords t) 0 * 32 + 1 * r.val = 32 * t.val + r.val
    rw [(rows_at t).1]; omega
  | ⟨1, _⟩ => show 0 * 7168 + 1 * k.val = k.val; omega

theorem v0_at (c : Dev nD) (n : Fin 1024) (k : Fin 7168) :
    (V m c main_v0 : FVec Ideal S1024x7168 .bf16) (ix2 n k)
      = (m (c, main_arg0) : FVec Ideal S2x512x7168 .bf16) (ix3 (tb n.val n.isLt) (ts n.val n.isLt) k) := by
  unfold V
  after_reads_at

theorem bA_v1 (c : Dev nD) (t : Fin cfg0.N) (r : Fin 32) (k : Fin 7168) :
    bA m c t (ix2 r k) = (V m c main_v1 : FVec Ideal S1024x7168 .bf16) (ix2 (⟨32 * t.val + r.val, tok_lt t r⟩ : Fin 1024) k) := by
  show (V m c main_v1 : FVec Ideal S1024x7168 .bf16) _ = _
  congr 1
  funext a
  apply Fin.ext
  match a with
  | ⟨0, _⟩ =>
    show cc0_transform_1 (cfg0.grid.coords t) 0 * 32 + 1 * r.val = 32 * t.val + r.val
    rw [(rows_at t).2.1]; omega
  | ⟨1, _⟩ => show 0 * 7168 + 1 * k.val = k.val; omega

theorem v1_at (c : Dev nD) (n : Fin 1024) (k : Fin 7168) :
    (V m c main_v1 : FVec Ideal S1024x7168 .bf16) (ix2 n k)
      = (m (c, main_arg1) : FVec Ideal S2x512x7168 .bf16) (ix3 (tb n.val n.isLt) (ts n.val n.isLt) k) := by
  unfold V
  after_reads_at

theorem bR_v3 (c : Dev nD) (t : Fin cfg0.N) (r : Fin 32) (k : Fin 7168) :
    bR m c t (ix2 r k) = (V m c main_v3 : IVec S1024x7168 32) (ix2 (⟨32 * t.val + r.val, tok_lt t r⟩ : Fin 1024) k) := by
  show (V m c main_v3 : IVec S1024x7168 32) _ = _
  congr 1
  funext a
  apply Fin.ext
  match a with
  | ⟨0, _⟩ =>
    show cc0_transform_3 (cfg0.grid.coords t) 0 * 32 + 1 * r.val = 32 * t.val + r.val
    rw [(rows_at t).2.2]; omega
  | ⟨1, _⟩ => show 0 * 7168 + 1 * k.val = k.val; omega

theorem v3_at (c : Dev nD) (n : Fin 1024) (k : Fin 7168) :
    (V m c main_v3 : IVec S1024x7168 32) (ix2 n k)
      = (m (c, main_arg3) : IVec S2x512x7168 32) (ix3 (tb n.val n.isLt) (ts n.val n.isLt) k) := by
  unfold V
  after_reads_at

theorem bB_at (c : Dev nD) (t : Fin cfg0.N) (k : Fin 7168) :
    bB m c t (ix2 (0 : Fin 1) k) = (m (c, main_arg2) : FVec Ideal S7168 .f32) (ix1 k) := by
  have h : bB m c t (ix2 (0 : Fin 1) k) = (V m c main_v2 : FVec Ideal S1x7168 .f32) (ix2 (0 : Fin 1) k) := by
    show (V m c main_v2 : FVec Ideal S1x7168 .f32) _ = _
    congr 1
    funext a
    apply Fin.ext
    match a with
    | ⟨0, _⟩ => rfl
    | ⟨1, _⟩ => show 0 * 7168 + 1 * k.val = k.val; omega
  rw [h]
  unfold V
  after_reads_at

theorem bG_at (c : Dev nD) (t : Fin cfg0.N) (k : Fin 7168) :
    bG m c t (ix2 (0 : Fin 1) k) = (m (c, main_arg4) : FVec Ideal S7168 .f32) (ix1 k) := by
  have h : bG m c t (ix2 (0 : Fin 1) k) = (V m c main_v4 : FVec Ideal S1x7168 .f32) (ix2 (0 : Fin 1) k) := by
    show (V m c main_v4 : FVec Ideal S1x7168 .f32) _ = _
    congr 1
    funext a
    apply Fin.ext
    match a with
    | ⟨0, _⟩ => rfl
    | ⟨1, _⟩ => show 0 * 7168 + 1 * k.val = k.val; omega
  rw [h]
  unfold V
  after_reads_at

theorem bBe_at (c : Dev nD) (t : Fin cfg0.N) (k : Fin 7168) :
    bBe m c t (ix2 (0 : Fin 1) k) = (m (c, main_arg5) : FVec Ideal S7168 .f32) (ix1 k) := by
  have h : bBe m c t (ix2 (0 : Fin 1) k) = (V m c main_v5 : FVec Ideal S1x7168 .f32) (ix2 (0 : Fin 1) k) := by
    show (V m c main_v5 : FVec Ideal S1x7168 .f32) _ = _
    congr 1
    funext a
    apply Fin.ext
    match a with
    | ⟨0, _⟩ => rfl
    | ⟨1, _⟩ => show 0 * 7168 + 1 * k.val = k.val; omega
  rw [h]
  unfold V
  after_reads_at

/-- The residual sums of token `s` of batch `b`. -/
def row (c : Dev nD) (b : Fin 2) (s : Fin 512) : Spec.Row := fun k =>
  Spec.resid ((m (c, main_arg3) : IVec S2x512x7168 32) (ix3 b s k)) ((m (c, main_arg1) : FVec Ideal S2x512x7168 .bf16) (ix3 b s k))
    ((m (c, main_arg2) : FVec Ideal S7168 .bf16) (ix1 k)) ((m (c, main_arg0) : FVec Ideal S2x512x7168 .bf16) (ix3 b s k))

/-- The normalised elements of a token. -/
def normed (c : Dev nD) (b : Fin 2) (s : Fin 512) : Spec.Row := Spec.norm (row m c b s)
  (fun k => (m (c, main_arg4) : FVec Ideal S7168 .f32) (ix1 k)) (fun k => (m (c, main_arg5) : FVec Ideal S7168 .f32) (ix1 k))

theorem rowB_eq (c : Dev nD) (t : Fin cfg0.N) (r : Fin 32) :
    rowB (bX m c t) (bA m c t) (bB m c t) (bR m c t) r = row m c (tb _ (tok_lt t r)) (ts _ (tok_lt t r)) := by
  funext k
  unfold rowB row
  rw [bX_v0, bA_v1, bR_v3, bB_at, v0_at, v1_at, v3_at]

theorem normB_eq (c : Dev nD) (t : Fin cfg0.N) (r : Fin 32) :
    normB (bX m c t) (bA m c t) (bB m c t) (bR m c t) (bG m c t) (bBe m c t) r = normed m c (tb _ (tok_lt t r)) (ts _ (tok_lt t r)) := by
  unfold normB normed
  rw [rowB_eq, funext fun k => bG_at m c t k, funext fun k => bBe_at m c t k]

end Cert.KernelIdeal.Body

end
-- ==== Proof.Exponent.lean ====
/- The exponent search of the body, one element at a time: what its probes find. -/
module

public import proofs.«01_k».proof.Proof.Spec
public import proofs.«01_k».proof.Proof.BodyPI
public import Idealize.ShloMosaic.Lib.Pointwise
public import Idealize.ShloMosaic.Lib.IdealHost

@[expose] public section

set_option maxRecDepth 16384

noncomputable section

namespace Cert.KernelIdeal.Body

open Idealize.ShloMosaic Idealize.ShloMosaic.TcCoe
open Cert.Fold Cert.KernelIdeal Cert.KernelIdeal.Gen

/-- One probe at one element. -/
def probe1 (v : EReal) (bit b : BitVec 32) : BitVec 32 :=
  Scalar.select (Ideal.cmp .oge v (Ideal.ofBits .f32 (IntOp.shli .vector (b + bit) 23#32))) (b + bit) b

/-- The biased exponent of one element. -/
def biased1 (v : EReal) : BitVec 32 :=
  probe1 v 1#32 (probe1 v 2#32 (probe1 v 4#32 (probe1 v 8#32 (probe1 v 16#32 (probe1 v 32#32 (probe1 v 64#32 (probe1 v 128#32 0#32)))))))

/-- The exponent of one element. -/
def exp1 (b : BitVec 32) : BitVec 32 :=
  Scalar.select (IntOp.ori (IntOp.cmpi .eq b 0#32) (IntOp.cmpi .eq b 255#32)) 0#32 (b - 126#32)

theorem probe_at (v : FVec Ideal S32x128 .f32) (bit : BitVec 32) (b : IVec S32x128 32) (i : Fin 32) (l : Fin 128) :
    probe v bit b (ix2 i l) = probe1 (v (ix2 i l)) bit (b (ix2 i l)) := rfl

theorem pay614_eq (v : FVec Ideal S32x128 .f32) (b : IVec S32x128 32) :
    k0_pay614 v b 32#32 = probe v 1#32 (probe v 2#32 (probe v 4#32 (probe v 8#32 (probe v 16#32 (probe v 32#32 b))))) := by
  delta k0_pay614 probe
  rfl

theorem biased_at (v : FVec Ideal S32x128 .f32) (i : Fin 32) (l : Fin 128) : biased v (ix2 i l) = biased1 (v (ix2 i l)) := by
  unfold biased biased1
  rw [pay614_eq]
  simp only [probe_at]
  rfl

theorem expOf_at (v : FVec Ideal S32x128 .f32) (i : Fin 32) (l : Fin 128) : expOf v (ix2 i l) = exp1 (biased1 (v (ix2 i l))) := by
  rw [← biased_at]
  unfold expOf
  generalize biased v = b
  exact rfl

theorem invOf_at (v : FVec Ideal S32x128 .f32) (i : Fin 32) (l : Fin 128) :
    (invOf v (ix2 i l) : EReal) = Ideal.ofBits .f32 (IntOp.shli .vector (0#32 - exp1 (biased1 (v (ix2 i l))) + 127#32) 23#32) := by
  rw [← expOf_at]
  unfold expOf invOf
  generalize biased v = b
  exact rfl

/-! ## The powers of two that the probes meet -/

/-- The number whose biased exponent is `n` and whose fraction is zero. -/
def P (n : ℕ) : EReal := Ideal.ofBits .f32 (IntOp.shli .vector (BitVec.ofNat 32 n) 23#32)

theorem P_fields : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by decide +kernel

theorem f32_ieee (b : BitVec 32) : Ideal.ofBits .f32 b = Ideal.ieee 8 23 b := rfl

theorem P_ieee (n : ℕ) : P n = Ideal.ieee 8 23 (IntOp.shli .vector (BitVec.ofNat 32 n) 23#32) := f32_ieee _

theorem P_zero : P 0 = 0 := by
  obtain ⟨h1, h2, h3⟩ := P_fields ⟨0, by decide⟩
  rw [P_ieee]
  unfold Ideal.ieee
  simp only [h1, h2, h3]
  simp

theorem P_top : P 255 = ⊤ := by
  obtain ⟨h1, h2, h3⟩ := P_fields ⟨255, by decide⟩
  rw [P_ieee]
  unfold Ideal.ieee
  simp only [h1, h2, h3]
  simp

theorem P_pow (n : ℕ) (h0 : 1 ≤ n) (h : n ≤ 254) : P n = (((2 : ℝ) ^ ((n : ℤ) - 127) : ℝ) : EReal) := by
  obtain ⟨h1, h2, h3⟩ := P_fields ⟨n, by omega⟩
  rw [P_ieee]
  unfold Ideal.ieee
  simp only [h1, h2, h3]
  rw [if_neg (by omega), if_neg (by omega)]
  refine congrArg (fun x : ℝ => (x : EReal)) ?_
  have e : ((n : ℤ) - 127 : ℤ) = 23 + ((n : ℤ) - (2 ^ (8 - 1) - 1) - 23) := by norm_num
  rw [e, zpow_add₀ (by norm_num)]
  norm_num

theorem P_mono {a b : ℕ} (h : a < b) (hb : b ≤ 255) : P a < P b := by
  rcases Nat.eq_zero_or_pos a with ha | ha
  · subst ha
    rw [P_zero]
    rcases Nat.lt_or_ge b 255 with hb' | hb'
    · rw [P_pow b (by omega) (by omega)]
      exact_mod_cast zpow_pos (by norm_num : (0 : ℝ) < 2) _
    · rw [show b = 255 by omega, P_top]; exact EReal.zero_lt_top
  · rw [P_pow a ha (by omega)]
    rcases Nat.lt_or_ge b 255 with hb' | hb'
    · rw [P_pow b (by omega) (by omega)]
      exact_mod_cast zpow_lt_zpow_right₀ (by norm_num : (1 : ℝ) < 2) (show (a : ℤ) - 127 < (b : ℤ) - 127 by omega)
    · rw [show b = 255 by omega, P_top]; exact EReal.coe_lt_top _

theorem P_le {a b : ℕ} (h : a ≤ b) (hb : b ≤ 255) : P a ≤ P b := by
  rcases Nat.lt_or_eq_of_le h with h | h
  · exact (P_mono h hb).le
  · rw [h]

/-! ## The search -/

/-- The exponent sought is at least `b` and below `b + w`. -/
def Found (v : EReal) (b w : ℕ) : Prop := b + w ≤ 256 ∧ P b ≤ v ∧ (b + w = 256 ∨ v < P (b + w))

theorem probe1_found (v : EReal) (w : ℕ) (x : BitVec 32) (h : ∃ b, x = BitVec.ofNat 32 b ∧ Found v b (w + w)) :
    ∃ b, probe1 v (BitVec.ofNat 32 w) x = BitVec.ofNat 32 b ∧ Found v b w := by
  obtain ⟨b, rfl, h1, h2, h3⟩ := h
  unfold probe1
  rw [← BitVec.ofNat_add]
  by_cases hp : P (b + w) ≤ v
  · refine ⟨b + w, ?_, by omega, hp, by rwa [Nat.add_assoc]⟩
    unfold Ideal.cmp
    rw [show (decide (Ideal.ofBits .f32 (IntOp.shli .vector (BitVec.ofNat 32 (b + w)) 23#32) ≤ v)) = true from decide_eq_true hp]
    rfl
  · refine ⟨b, ?_, by omega, h2, .inr (not_le.mp hp)⟩
    unfold Ideal.cmp
    rw [show (decide (Ideal.ofBits .f32 (IntOp.shli .vector (BitVec.ofNat 32 (b + w)) 23#32) ≤ v)) = false from decide_eq_false hp]
    rfl

theorem biased1_found (v : EReal) (h : 0 ≤ v) : ∃ b, biased1 v = BitVec.ofNat 32 b ∧ Found v b 1 :=
  probe1_found v 1 _ (probe1_found v 2 _ (probe1_found v 4 _ (probe1_found v 8 _ (probe1_found v 16 _ (probe1_found v 32 _
    (probe1_found v 64 _ (probe1_found v 128 _ ⟨0, rfl, by omega, by rwa [P_zero], .inl rfl⟩)))))))

theorem exp1_bits : ∀ b : Fin 253, 1 ≤ b.val → exp1 (BitVec.ofNat 32 b.val) + 127#32 = BitVec.ofNat 32 (b.val + 1)
    ∧ 0#32 - exp1 (BitVec.ofNat 32 b.val) + 127#32 = BitVec.ofNat 32 (253 - b.val) := by decide +kernel

theorem two_eq : Ideal.ofBits .f32 0x40000000#32 = ((2 : ℝ) : EReal) := by
  have h := P_pow 128 (by decide) (by decide)
  have e : P 128 = Ideal.ofBits .f32 0x40000000#32 := rfl
  rw [← e, h]
  norm_num

theorem small_eq : Ideal.ofBits .f32 0x00800000#32 = P 1 := rfl

/-- The exponent of a ratio between two powers of two. -/
theorem expo_eq (v : EReal) (b : ℕ) (h1 : 1 ≤ b) (h2 : b ≤ 252) (hl : P b ≤ v) (hu : v < P (b + 1)) :
    Spec.expo v = ((((b : ℤ) - 126 : ℤ) : ℝ) : EReal) := by
  have hv1 : ¬ v < Ideal.ofBits .f32 0x00800000#32 := by
    rw [small_eq]; exact not_lt.mpr ((P_le h1 (by omega)).trans hl)
  unfold Spec.expo
  rw [if_neg hv1]
  rw [P_pow b h1 (by omega)] at hl
  rw [P_pow (b + 1) (by omega) (by omega)] at hu
  induction v with
  | bot => exact absurd hl (not_le.mpr (EReal.bot_lt_coe _))
  | top => exact absurd hu (not_lt.mpr le_top)
  | coe r =>
    have hl' : (2 : ℝ) ^ ((b : ℤ) - 127) ≤ r := by exact_mod_cast hl
    have hu' : r < (2 : ℝ) ^ (((b + 1 : ℕ) : ℤ) - 127) := by exact_mod_cast hu
    have hr : 0 < r := lt_of_lt_of_le (zpow_pos (by norm_num) _) hl'
    have hlog2 : 0 < Real.log 2 := Real.log_pos (by norm_num)
    rw [two_eq, Ideal.log_coe, Ideal.log_coe, if_neg (not_le.mpr hr), if_neg (by norm_num), Ideal.div_coe hlog2.ne',
      ← EReal.coe_mul, Ideal.liftRound_coe]
    have hf : ⌊Real.log r * (1 / Real.log 2)⌋ = (b : ℤ) - 127 := by
      rw [Int.floor_eq_iff, mul_one_div, le_div_iff₀ hlog2, div_lt_iff₀ hlog2]
      constructor
      · rw [← Real.log_zpow]
        exact Real.log_le_log (zpow_pos (by norm_num) _) hl'
      · have e : (((b : ℤ) - 127 : ℤ) : ℝ) + 1 = ((((b + 1 : ℕ) : ℤ) - 127 : ℤ) : ℝ) := by push_cast; ring
        rw [e, ← Real.log_zpow]
        exact Real.log_lt_log hr hu'
    rw [hf, show (1 : EReal) = ((1 : ℝ) : EReal) from rfl, ← EReal.coe_add]
    congr 1
    push_cast
    ring

theorem pow_two (n : ℤ) : Ideal.pow (Ideal.ofBits .f32 0x40000000#32) (((n : ℝ)) : EReal) = (((2 : ℝ) ^ n : ℝ) : EReal) := by
  rw [two_eq, Ideal.pow_coe_coe]
  congr 1
  exact Real.rpow_intCast 2 n

/-- The body's scale and its reciprocal are those of the ratio, where it is below `2 ^ 126`. -/
theorem scale_eq (v : EReal) (h0 : 0 ≤ v) (h : v < P 253) :
    Ideal.ofBits .f32 (IntOp.shli .vector (exp1 (biased1 v) + 127#32) 23#32) = Spec.scale v
      ∧ Ideal.ofBits .f32 (IntOp.shli .vector (0#32 - exp1 (biased1 v) + 127#32) 23#32) = Spec.invScale v := by
  obtain ⟨b, e, hb, hl, hu⟩ := biased1_found v h0
  have hb2 : b ≤ 252 := by
    by_contra hc
    exact absurd (hl.trans_lt h) (not_lt.mpr (P_le (by omega) (by omega)))
  have hu' : v < P (b + 1) := hu.resolve_left (by omega)
  rw [e]
  unfold Spec.scale Spec.invScale
  rcases Nat.eq_zero_or_pos b with hz | hz
  · subst hz
    have hx : Spec.expo v = (((0 : ℤ) : ℝ) : EReal) := by
      unfold Spec.expo
      rw [small_eq, if_pos hu']
      simp
    have hn : -Spec.expo v = (((0 : ℤ) : ℝ) : EReal) := by rw [hx]; simp
    rw [hn, hx, pow_two]
    have hp := P_pow 127 (by decide) (by decide)
    have ha : Ideal.ofBits .f32 (IntOp.shli .vector (exp1 (BitVec.ofNat 32 0) + 127#32) 23#32) = P 127 := rfl
    have hb : Ideal.ofBits .f32 (IntOp.shli .vector (0#32 - exp1 (BitVec.ofNat 32 0) + 127#32) 23#32) = P 127 := rfl
    rw [ha, hb, hp]
    norm_num
  · obtain ⟨e1, e2⟩ := exp1_bits ⟨b, by omega⟩ hz
    have hx := expo_eq v b hz hb2 hl hu'
    have hn : -Spec.expo v = (((-((b : ℤ) - 126) : ℤ) : ℝ) : EReal) := by rw [hx, ← EReal.coe_neg]; push_cast; rfl
    rw [hn, hx, pow_two, pow_two, e1, e2]
    refine ⟨(P_pow (b + 1) (by omega) (by omega)).trans ?_, (P_pow (253 - b) (by omega) (by omega)).trans ?_⟩
    · congr 2; push_cast; ring
    · congr 2; rw [Nat.cast_sub (by omega)]; push_cast; ring

end Cert.KernelIdeal.Body

end
-- ==== Proof.Bound.lean ====
/- How large a normalised row can be: under finite weights its ratio stays below `2 ^ 126`. -/
module

public import proofs.«01_k».proof.Proof.Spec
public import proofs.«01_k».proof.Proof.Exponent

@[expose] public section

noncomputable section

namespace Cert.Spec

open Idealize.ShloMosaic
open Cert.KernelIdeal.Body (P P_pow f32_ieee)
open scoped BigOperators

theorem sum_real (r : Fin 7168 → ℝ) : (∑ k, ((r k : ℝ) : EReal)) = ((∑ k, r k : ℝ) : EReal) :=
  (map_sum (⟨⟨Real.toEReal, EReal.coe_zero⟩, EReal.coe_add⟩ : ℝ →+ EReal) r Finset.univ).symm

theorem sq_nonneg' (x : EReal) : 0 ≤ x * x := by
  induction x with
  | bot => simp
  | top => simp
  | coe r => exact_mod_cast mul_self_nonneg r

/-- The constant added to the variance. -/
theorem eps_pos : ∃ e : ℝ, 0 < e ∧ Ideal.ofBits .f32 0x3727C5AC#32 = ((e : ℝ) : EReal) := by
  refine ⟨10995116 * (2 : ℝ) ^ (-40 : ℤ), by positivity, ?_⟩
  rw [f32_ieee]
  simp [Ideal.ieee]

theorem ratio_const : Ideal.ofBits .f32 0x3B124925#32 = ((9586981 * (2 : ℝ) ^ (-32 : ℤ) : ℝ) : EReal) := by
  rw [f32_ieee]
  simp [Ideal.ieee]

theorem max_const : Ideal.ofBits .f32 0x7F7FFFFF#32 = ((16777215 * (2 : ℝ) ^ (104 : ℤ) : ℝ) : EReal) := by
  rw [f32_ieee]
  simp [Ideal.ieee]

theorem dev_real (r : Fin 7168 → ℝ) (k : Fin 7168) (e : ℝ) (he : 0 < e) :
    0 < (∑ j, r j * r j) * (1 / 7168) + e ∧ |r k * (Real.sqrt ((∑ j, r j * r j) * (1 / 7168) + e))⁻¹| ≤ 85 := by
  have hs : r k * r k ≤ ∑ j, r j * r j := Finset.single_le_sum (f := fun j => r j * r j) (fun j _ => mul_self_nonneg _) (Finset.mem_univ k)
  have hs0 : 0 ≤ ∑ j, r j * r j := Finset.sum_nonneg fun j _ => mul_self_nonneg _
  generalize (∑ j, r j * r j) = s at hs hs0
  have hp : 0 < s * (1 / 7168) + e := by positivity
  refine ⟨hp, ?_⟩
  have hq : 0 < Real.sqrt (s * (1 / 7168) + e) := Real.sqrt_pos.mpr hp
  rw [abs_mul, abs_inv, abs_of_pos hq, ← div_eq_mul_inv, div_le_iff₀ hq]
  refine abs_le_of_sq_le_sq ?_ (by positivity)
  rw [mul_pow, Real.sq_sqrt hp.le]
  nlinarith

/-- No element of a row lies farther than 85 deviations from the mean. -/
theorem dev_bound (c : Row) (k : Fin 7168) :
    ∃ q : ℝ, |q| ≤ 85 ∧ c k * Ideal.rsqrt ((∑ j, c j * c j) * ((1 / 7168 : ℝ) : EReal) + Ideal.ofBits .f32 0x3727C5AC#32) = ((q : ℝ) : EReal) := by
  obtain ⟨e, he, hE⟩ := eps_pos
  rw [hE]
  by_cases hr : ∃ r : Fin 7168 → ℝ, c = fun j => ((r j : ℝ) : EReal)
  · obtain ⟨r, rfl⟩ := hr
    simp only [← EReal.coe_mul]
    rw [sum_real, ← EReal.coe_mul, ← EReal.coe_add, Ideal.rsqrt_coe]
    obtain ⟨hp, hq⟩ := dev_real r k e he
    rw [if_neg (not_lt.mpr hp.le), if_neg hp.ne', ← EReal.coe_mul]
    exact ⟨_, hq, rfl⟩
  · have hk : ∃ j, c j * c j = ⊤ := by
      by_contra hc
      refine hr ⟨fun j => (c j).toReal, funext fun j => ?_⟩
      have := fun h => hc ⟨j, h⟩
      show c j = (((c j).toReal : ℝ) : EReal)
      generalize c j = x at this ⊢
      induction x with
      | bot => simp at this
      | top => simp at this
      | coe r => rfl
    obtain ⟨j, hj⟩ := hk
    have ht : (∑ j, c j * c j) = ⊤ := by
      refine top_le_iff.mp ?_
      rw [← hj]
      exact Finset.single_le_sum (f := fun j => c j * c j) (fun j _ => sq_nonneg' _) (Finset.mem_univ j)
    rw [ht, EReal.top_mul_coe_of_pos (by norm_num), EReal.top_add_coe, Ideal.rsqrt_top, mul_zero]
    exact ⟨0, by norm_num, rfl⟩

theorem fold_bounds (y : Row) (B : EReal) (h0 : ∀ k, 0 ≤ y k) (hB : ∀ k, y k ≤ B) :
    0 ≤ Finset.univ.fold max ⊥ y ∧ Finset.univ.fold max ⊥ y ≤ B := by
  constructor
  · exact (Finset.le_fold_max _).mpr (.inr ⟨0, Finset.mem_univ _, h0 0⟩)
  · exact (Finset.fold_max_le _).mpr ⟨bot_le, fun k _ => hB k⟩

theorem real_of_abs (x : EReal) (M : ℝ) (h : max x (-x) ≤ (M : EReal)) : ∃ r : ℝ, |r| ≤ M ∧ x = r := by
  induction x with
  | bot => simp at h
  | top => simp at h
  | coe r =>
    refine ⟨r, ?_, rfl⟩
    rw [← EReal.coe_neg] at h
    have h1 : r ≤ M := by exact_mod_cast (le_max_left _ _).trans h
    have h2 : -r ≤ M := by exact_mod_cast (le_max_right _ _).trans h
    exact abs_le.mpr ⟨by linarith, h1⟩

/-- Under finite weights the ratio of a normalised row is nonnegative and below `2 ^ 126`. -/
theorem ratio_bound (h g b : Row) (hg : ∀ k, max (g k) (-(g k)) ≤ Ideal.ofBits .f32 0x7F7FFFFF#32)
    (hb : ∀ k, max (b k) (-(b k)) ≤ Ideal.ofBits .f32 0x7F7FFFFF#32) :
    0 ≤ ratio (norm h g b) ∧ ratio (norm h g b) < P 253 := by
  rw [max_const] at hg hb
  have hy : ∀ k, ∃ r : ℝ, |r| ≤ 86 * (2 : ℝ) ^ 128 ∧ norm h g b k = ((r : ℝ) : EReal) := by
    intro k
    obtain ⟨q, hq, e⟩ := dev_bound (centred h) k
    obtain ⟨x, hx, ex⟩ := real_of_abs _ _ (hg k)
    obtain ⟨z, hz, ez⟩ := real_of_abs _ _ (hb k)
    refine ⟨q * x + z, ?_, ?_⟩
    · have h1 : |q * x + z| ≤ |q| * |x| + |z| := by rw [← abs_mul]; exact abs_add_le _ _
      have h2 : |q| * |x| ≤ 85 * (16777215 * (2 : ℝ) ^ (104 : ℤ)) := mul_le_mul hq hx (abs_nonneg _) (by norm_num)
      norm_num at h1 h2 hz ⊢
      linarith
    · show centred h k * rstd h * g k + b k = _
      rw [show centred h k * rstd h = ((q : ℝ) : EReal) from e, ex, ez]
      push_cast
      rfl
  have hf := fold_bounds (fun k => max (norm h g b k) (-(norm h g b k))) ((86 * (2 : ℝ) ^ 128 : ℝ) : EReal)
    (fun k => by
      obtain ⟨r, hr, e⟩ := hy k
      rw [e, ← EReal.coe_neg]
      rcases le_total 0 r with h | h
      · exact (show (0 : EReal) ≤ (r : EReal) by exact_mod_cast h).trans (le_max_left _ _)
      · exact (show (0 : EReal) ≤ ((-r : ℝ) : EReal) by exact_mod_cast (by linarith : 0 ≤ -r)).trans (le_max_right _ _))
    (fun k => by
      obtain ⟨r, hr, e⟩ := hy k
      rw [e, ← EReal.coe_neg]
      rw [abs_le] at hr
      exact max_le (EReal.coe_le_coe_iff.mpr hr.2) (EReal.coe_le_coe_iff.mpr (by linarith [hr.1])))
  unfold ratio
  rw [ratio_const, P_pow 253 (by decide) (by decide)]
  obtain ⟨h0, h1⟩ := hf
  change 0 ≤ amax _ at h0
  change amax _ ≤ _ at h1
  generalize amax (norm h g b) = a at h0 h1
  induction a with
  | bot => exact absurd h0 (by simp)
  | top => exact absurd h1 (not_le.mpr (EReal.coe_lt_top _))
  | coe r =>
    have h0' : 0 ≤ r := by exact_mod_cast h0
    have h1' : r ≤ 86 * (2 : ℝ) ^ 128 := EReal.coe_le_coe_iff.mp h1
    rw [← EReal.coe_mul]
    constructor
    · exact_mod_cast by positivity
    · refine EReal.coe_lt_coe_iff.mpr ?_
      norm_num at h1' ⊢
      linarith

end Cert.Spec

end
-- ==== Proof.Flush.lean ====
/- The codes and the residual sums in HBM after the run: every point writes its block of 32 tokens. -/
module

public import proofs.«01_k».proof.Proof.Blocks
public import proofs.«01_k».proof.Proof.Bound
public import proofs.«01_k».proof.Proof.Gen.KernelIdeal.Points
public import Idealize.ShloMosaic.Lib.Pipeline.ArrRel

@[expose] public section

set_option maxRecDepth 16384

noncomputable section

namespace Cert.KernelIdeal.Body

open Idealize.ShloMosaic Idealize.ShloMosaic.TcCoe
open Idealize.ShloMosaic.Pipeline (Dat RDat Cfg Window)
open Cert.Fold Cert.KernelIdeal Cert.KernelIdeal.Gen

variable (m : (ℓ : Loc nD τ sig) → Buf (Elt Ideal) ℓ)

def gRow (c : Dev nD) : Spec.Row := fun k => (m (c, main_arg4) : FVec Ideal S7168 .f32) (ix1 k)
def bRow (c : Dev nD) : Spec.Row := fun k => (m (c, main_arg5) : FVec Ideal S7168 .f32) (ix1 k)

/-- The weights and the offsets are finite. -/
def AffineOk (c : Dev nD) : Prop :=
  (∀ k, max (gRow m c k) (-(gRow m c k)) ≤ Ideal.ofBits .f32 0x7F7FFFFF#32)
    ∧ ∀ k, max (bRow m c k) (-(bRow m c k)) ≤ Ideal.ofBits .f32 0x7F7FFFFF#32

theorem normed_bound (c : Dev nD) (h : AffineOk m c) (b : Fin 2) (s : Fin 512) :
    0 ≤ Spec.ratio (normed m c b s) ∧ Spec.ratio (normed m c b s) < P 253 :=
  Spec.ratio_bound _ _ _ h.1 h.2

/-- The codes. -/
def codesG (c : Dev nD) : S1024x7168.Idx → Elt Ideal .fp8e4m3 := fun i =>
  Spec.code (normed m c (tb (i 0).val (i 0).isLt) (ts (i 0).val (i 0).isLt) (i 1))
    (Spec.invScale (Spec.ratio (normed m c (tb (i 0).val (i 0).isLt) (ts (i 0).val (i 0).isLt))))

/-- The residual sums. -/
def hG (c : Dev nD) : S1024x7168.Idx → Elt Ideal .bf16 := fun i => row m c (tb (i 0).val (i 0).isLt) (ts (i 0).val (i 0).isLt) (i 1)

theorem codesAt_at (c : Dev nD) (h : AffineOk m c) (t : Fin cfg0.N) (r : Fin 32) (k : Fin 7168) :
    codesAt m c t (ix2 r k) = codesG m c (ix2 (⟨32 * t.val + r.val, tok_lt t r⟩ : Fin 1024) k) := by
  unfold codesAt
  rw [codesV_at, invOf_at, vV_at, normB_eq]
  obtain ⟨h0, h1⟩ := normed_bound m c h (tb _ (tok_lt t r)) (ts _ (tok_lt t r))
  rw [(scale_eq _ h0 h1).2]
  rfl

theorem hAt_row (c : Dev nD) (t : Fin cfg0.N) (r : Fin 32) (k : Fin 7168) :
    hAt m c t (ix2 r k) = hG m c (ix2 (⟨32 * t.val + r.val, tok_lt t r⟩ : Fin 1024) k) := by
  unfold hAt
  rw [hAt_at, rowB_eq]
  rfl

theorem rows_out : ∀ t : Fin cfg0.N, cc0_transform_6 (cfg0.grid.coords t) 0 = t.val ∧ cc0_transform_11 (cfg0.grid.coords t) 0 = t.val := by
  decide +kernel

theorem emb6 (t : Fin cfg0.N) (r : Fin 32) (k : Fin 7168) :
    ((cfg0.win 6).blk t).view.emb (ix2 r k) = (ix2 (⟨32 * t.val + r.val, tok_lt t r⟩ : Fin 1024) k : S1024x7168.Idx) := by
  funext a
  apply Fin.ext
  match a with
  | ⟨0, _⟩ =>
    show cc0_transform_6 (cfg0.grid.coords t) 0 * 32 + 1 * r.val = 32 * t.val + r.val
    rw [(rows_out t).1]; omega
  | ⟨1, _⟩ => show 0 * 7168 + 1 * k.val = k.val; omega

theorem emb11 (t : Fin cfg0.N) (r : Fin 32) (k : Fin 7168) :
    ((cfg0.win 11).blk t).view.emb (ix2 r k) = (ix2 (⟨32 * t.val + r.val, tok_lt t r⟩ : Fin 1024) k : S1024x7168.Idx) := by
  funext a
  apply Fin.ext
  match a with
  | ⟨0, _⟩ =>
    show cc0_transform_11 (cfg0.grid.coords t) 0 * 32 + 1 * r.val = 32 * t.val + r.val
    rw [(rows_out t).2]; omega
  | ⟨1, _⟩ => show 0 * 7168 + 1 * k.val = k.val; omega

/-- The point that writes token `n`. -/
abbrev ptOf (n : Fin 1024) : Fin cfg0.N := ⟨n.val / 32, by show n.val / 32 < 32; omega⟩

theorem split_tok (n : Fin 1024) (k : Fin 7168) :
    (ix2 (⟨32 * (ptOf n).val + (⟨n.val % 32, by omega⟩ : Fin 32).val, tok_lt _ _⟩ : Fin 1024) k : S1024x7168.Idx) = ix2 n k := by
  congr 1
  apply Fin.ext
  show 32 * (n.val / 32) + n.val % 32 = n.val
  omega

theorem arr6 (c : Dev nD) (ok : AffineOk m c) (after : (w' : Fin cfg0.W) → Fin cfg0.N → (cfg0.win w').block.Idx → Elt Ideal (cfg0.win w').elt)
    (h : ∀ t, after 6 t = codesAt m c t) : ((rdat m c).withAfter after).arrAt 6 cfg0.N = codesG m c := by
  refine ((rdat m c).withAfter after).arrAt_eq_of_cover 6 (codesG m c) (fun t _ => ?_) (fun i => ?_)
  · show (cfg0.win 6).cut (cfg0.grid.coords t) (after 6 t) = _
    rw [h]
    funext x
    obtain ⟨r, k, rfl⟩ : ∃ (r : Fin 32) (k : Fin 7168), x = ix2 r k := ⟨x 0, x 1, eq_ix2 x⟩
    refine (codesAt_at m c ok t r k).trans ?_
    rw [View.read_apply, emb6]
    rfl
  · obtain ⟨n, k, rfl⟩ : ∃ (n : Fin 1024) (k : Fin 7168), i = ix2 n k := ⟨i 0, i 1, eq_ix2 i⟩
    refine ⟨ptOf n, flush0_6 _, ?_⟩
    have e := ((cfg0.win 6).blk (ptOf n)).view.emb_mem_set (ix2 (⟨n.val % 32, by omega⟩ : Fin 32) k)
    rw [emb6, split_tok] at e
    exact e

theorem arr11 (c : Dev nD) (after : (w' : Fin cfg0.W) → Fin cfg0.N → (cfg0.win w').block.Idx → Elt Ideal (cfg0.win w').elt)
    (h : ∀ t, after 11 t = hAt m c t) : ((rdat m c).withAfter after).arrAt 11 cfg0.N = hG m c := by
  refine ((rdat m c).withAfter after).arrAt_eq_of_cover 11 (hG m c) (fun t _ => ?_) (fun i => ?_)
  · show (cfg0.win 11).cut (cfg0.grid.coords t) (after 11 t) = _
    rw [h]
    funext x
    obtain ⟨r, k, rfl⟩ : ∃ (r : Fin 32) (k : Fin 7168), x = ix2 r k := ⟨x 0, x 1, eq_ix2 x⟩
    refine (hAt_row m c t r k).trans ?_
    rw [View.read_apply, emb11]
    rfl
  · obtain ⟨n, k, rfl⟩ : ∃ (n : Fin 1024) (k : Fin 7168), i = ix2 n k := ⟨i 0, i 1, eq_ix2 i⟩
    refine ⟨ptOf n, flush0_11 _, ?_⟩
    have e := ((cfg0.win 11).blk (ptOf n)).view.emb_mem_set (ix2 (⟨n.val % 32, by omega⟩ : Fin 32) k)
    rw [emb11, split_tok] at e
    exact e

end Cert.KernelIdeal.Body

end
-- ==== Proof.Lines.lean ====
/- The lines the body puts into the scales, the means and the reciprocal roots. -/
module

public import proofs.«01_k».proof.Proof.Exponent
public import proofs.«01_k».proof.Proof.TileVals
public import proofs.«01_k».proof.Proof.RunPI

@[expose] public section

set_option maxRecDepth 16384

noncomputable section

namespace Cert.KernelIdeal.Body

open Idealize.ShloMosaic Idealize.ShloMosaic.TcCoe
open Cert.Fold Cert.KernelIdeal Cert.KernelIdeal.Gen
open scoped BigOperators

/-- Where the block's lanes begin in its line. -/
def loOf (arg0 : BitVec 32) : BitVec 32 :=
  let v4258 : BitVec 1 := Scalar.cmpi .eq 4#32 0#32
  let v4259 : BitVec 32 := Scalar.select v4258 1#32 4#32
  let v4260 : BitVec 32 := Scalar.remsi arg0 v4259
  let v4261 : BitVec 1 := Scalar.cmpi .ne v4260 0#32
  let v4262 : BitVec 1 := Scalar.cmpi .slt v4260 0#32
  let v4263 : BitVec 1 := Scalar.cmpi .slt v4259 0#32
  let v4264 : BitVec 1 := Scalar.xori v4262 v4263
  let v4265 : BitVec 1 := Scalar.andi v4264 v4261
  let v4266 : BitVec 32 := Scalar.addi v4260 v4259
  let v4267 : BitVec 32 := Scalar.select v4265 v4266 v4260
  Scalar.muli v4267 32#32

theorem lo_at : ∀ t : Fin cfg0.N, loOf (a0 (cfg0.grid.coords t)) = BitVec.ofNat 32 (t.val % 4 * 32) := by decide +kernel
theorem batch_at : ∀ t : Fin cfg0.N, batchOf (a0 (cfg0.grid.coords t)) = BitVec.ofNat 32 (t.val / 16) := by decide +kernel
theorem off2_at : ∀ t : Fin cfg0.N, k0_off2 (cfg0.grid.coords t) 0 = 0 ∧ k0_off2 (cfg0.grid.coords t) 1 = t.val / 4 % 4 * 128 := by decide +kernel

theorem hit_lo (a : BitVec 32) (r : Fin 32) (l : Fin 128) :
    k0_pay678 a iota0 (ix2 r l) = IntOp.cmpi .eq (BitVec.ofNat 32 l.val) (BitVec.ofNat 32 r.val + loOf a) := by
  unfold iota0
  unfold_payloads
  pointwise
  rfl

theorem mine_lo (a d : BitVec 32) (b : Fin 2) (l : Fin 128) :
    k0_pay679 a iota1 d (ix2 b l) = IntOp.andi (IntOp.andi (IntOp.cmpi .sge (BitVec.ofNat 32 l.val) (loOf a))
      (IntOp.cmpi .slt (BitVec.ofNat 32 l.val) (loOf a + 32#32))) (IntOp.cmpi .eq (BitVec.ofNat 32 b.val) d) := by
  unfold iota1
  unfold_payloads
  pointwise
  rfl

theorem line1_at (v : FVec Ideal S32x128 .f32) (hit : IVec S32x128 1) (mine : IVec S2x128 1) (old : FVec Ideal S2x128 .f32) (b : Fin 2) (l : Fin 128) :
    (k0_pay1 v hit mine k0_pay681 old (ix2 b l) : EReal)
      = Scalar.select (mine (ix2 b l)) (∑ r : Fin 32, Scalar.select (hit (ix2 r l)) (v (ix2 r l) : EReal) 0) (old (ix2 b l)) := by
  unfold_payloads
  pointwise

theorem line2_at (v : FVec Ideal S32x128 .f32) (hit : IVec S32x128 1) (mine : IVec S2x128 1) (old : FVec Ideal S2x128 .f32) (b : Fin 2) (l : Fin 128) :
    (k0_pay2 v hit mine old (ix2 b l) : EReal)
      = Scalar.select (mine (ix2 b l)) (∑ r : Fin 32, Scalar.select (hit (ix2 r l)) (v (ix2 r l) : EReal) 0) (old (ix2 b l)) := by
  unfold_payloads
  pointwise

theorem line680_at (a : BitVec 32) (e : IVec S32x128 32) (io : IVec S32x128 32) (hit : IVec S32x128 1) (d : BitVec 32) (old : FVec Ideal S2x128 .f32) (b : Fin 2) (l : Fin 128) :
    (k0_pay680 (F := Ideal) a e io hit d old (ix2 b l) : EReal)
      = Scalar.select (k0_pay679 a io d (ix2 b l)) (∑ r : Fin 32, Scalar.select (hit (ix2 r l))
          (Ideal.ofBits .f32 (IntOp.shli .vector (e (ix2 r l) + 127#32) 23#32)) 0) (old (ix2 b l)) := by
  unfold k0_pay680
  generalize k0_pay679 a io d = mine
  pointwise
  rfl

/-! ## The masks, decided -/

theorem hit_dec (k : Fin 4) (r : Fin 32) : ∀ l : Fin 128,
    IntOp.cmpi .eq (BitVec.ofNat 32 l.val) (BitVec.ofNat 32 r.val + BitVec.ofNat 32 (k.val * 32)) = BitVec.ofBool (decide (l.val = r.val + k.val * 32)) := by
  revert k r; decide +kernel

theorem mine_dec (k : Fin 4) (d b : Fin 2) : ∀ l : Fin 128,
    IntOp.andi (IntOp.andi (IntOp.cmpi .sge (BitVec.ofNat 32 l.val) (BitVec.ofNat 32 (k.val * 32)))
      (IntOp.cmpi .slt (BitVec.ofNat 32 l.val) (BitVec.ofNat 32 (k.val * 32) + 32#32))) (IntOp.cmpi .eq (BitVec.ofNat 32 b.val) (BitVec.ofNat 32 d.val))
      = BitVec.ofBool (decide (l.val / 32 = k.val ∧ b.val = d.val)) := by
  revert k d b; decide +kernel

theorem hit_at (t : Fin cfg0.N) (r : Fin 32) (l : Fin 128) :
    k0_pay678 (a0 (cfg0.grid.coords t)) iota0 (ix2 r l) = BitVec.ofBool (decide (l.val = r.val + t.val % 4 * 32)) := by
  rw [hit_lo, lo_at]
  exact hit_dec ⟨t.val % 4, by omega⟩ r l

theorem mine_at (t : Fin cfg0.N) (b : Fin 2) (l : Fin 128) :
    k0_pay679 (a0 (cfg0.grid.coords t)) iota1 (batchOf (a0 (cfg0.grid.coords t))) (ix2 b l)
      = BitVec.ofBool (decide (l.val / 32 = t.val % 4 ∧ b.val = t.val / 16)) := by
  have ht : t.val < 32 := t.isLt
  rw [mine_lo, lo_at, batch_at]
  exact mine_dec ⟨t.val % 4, by omega⟩ ⟨t.val / 16, by omega⟩ b l

theorem select_dec {α : Type} (p : Prop) [Decidable p] (x y : α) : Scalar.select (BitVec.ofBool (decide p)) x y = if p then x else y := by
  by_cases h : p
  · rw [decide_eq_true h, if_pos h]; rfl
  · rw [decide_eq_false h, if_neg h]; rfl

/-- The one row that hits a lane gives the lane's sum. -/
theorem sum_hit (t : Fin cfg0.N) (l : Fin 128) (hl : l.val / 32 = t.val % 4) (x : Fin 32 → EReal) :
    ∑ r : Fin 32, Scalar.select (k0_pay678 (a0 (cfg0.grid.coords t)) iota0 (ix2 r l)) (x r) 0 = x ⟨l.val % 32, by omega⟩ := by
  rw [Finset.sum_congr rfl fun r _ => (congrArg (fun h => Scalar.select h (x r) 0) (hit_at t r l)).trans (select_dec _ (x r) 0)]
  rw [Finset.sum_eq_single (⟨l.val % 32, by omega⟩ : Fin 32)]
  · rw [if_pos]
    show l.val = l.val % 32 + t.val % 4 * 32
    omega
  · intro r _ hr
    refine if_neg fun h => hr (Fin.ext ?_)
    have := r.isLt
    show r.val = l.val % 32
    omega
  · intro h; exact absurd (Finset.mem_univ _) h

/-- A line put into its place changes the block's tokens alone. -/
theorem put_line (t : Fin cfg0.N) (line : (S2x128.Idx → Elt Ideal .f32) → S2x128.Idx → Elt Ideal .f32) (x : Fin 32 → Fin 128 → EReal)
    (hline : ∀ old b l, line old (ix2 b l) = Scalar.select (k0_pay679 (a0 (cfg0.grid.coords t)) iota1 (batchOf (a0 (cfg0.grid.coords t))) (ix2 b l))
      (∑ r : Fin 32, Scalar.select (k0_pay678 (a0 (cfg0.grid.coords t)) iota0 (ix2 r l)) (x r l) 0) (old (ix2 b l)))
    (S : S2x512.Idx → Elt Ideal .f32) (b : Fin 2) (s : Fin 512) :
    putCols (cfg0.grid.coords t) line S (ix2 b s)
      = if b.val = t.val / 16 ∧ s.val / 32 = t.val % 16 then x ⟨s.val % 32, by omega⟩ ⟨s.val % 128, by omega⟩ else S (ix2 b s) := by
  obtain ⟨o0, o1⟩ := off2_at t
  have ht : t.val < 32 := t.isLt
  unfold putCols VecWindow.put
  by_cases hs : s.val / 128 = t.val / 4 % 4
  · have h : ∀ a : Fin 2, k0_off2 (cfg0.grid.coords t) a ≤ ((ix2 b s : S2x512.Idx) a).val
        ∧ ((ix2 b s : S2x512.Idx) a).val < k0_off2 (cfg0.grid.coords t) a + S2x128.size a := by
      intro a
      match a with
      | ⟨0, _⟩ =>
        show k0_off2 (cfg0.grid.coords t) 0 ≤ b.val ∧ b.val < k0_off2 (cfg0.grid.coords t) 0 + 2
        rw [o0]; omega
      | ⟨1, _⟩ =>
        show k0_off2 (cfg0.grid.coords t) 1 ≤ s.val ∧ s.val < k0_off2 (cfg0.grid.coords t) 1 + 128
        rw [o1]; omega
    rw [dif_pos h]
    have e : (Rect.unitLocal (s := S2x512) (off := k0_off2 (cfg0.grid.coords t)) (size := S2x128.size) (ix2 b s) h : S2x128.Idx)
        = ix2 b (⟨s.val % 128, by omega⟩ : Fin 128) := by
      funext a
      apply Fin.ext
      match a with
      | ⟨0, _⟩ =>
        show b.val - k0_off2 (cfg0.grid.coords t) 0 = b.val
        rw [o0]; omega
      | ⟨1, _⟩ =>
        show s.val - k0_off2 (cfg0.grid.coords t) 1 = s.val % 128
        rw [o1]; omega
    have hw : VecWindow.window S (k0_off2 (cfg0.grid.coords t)) S2x128.size (k0_off2_inb (cfg0.grid.coords t)) (ix2 b (⟨s.val % 128, by omega⟩ : Fin 128))
        = S (ix2 b s) := by
      unfold VecWindow.window
      congr 1
      funext a
      apply Fin.ext
      match a with
      | ⟨0, _⟩ =>
        show k0_off2 (cfg0.grid.coords t) 0 + 1 * b.val = b.val
        rw [o0]; omega
      | ⟨1, _⟩ =>
        show k0_off2 (cfg0.grid.coords t) 1 + 1 * (s.val % 128) = s.val
        rw [o1]; omega
    rw [e]
    refine (hline _ b _).trans ?_
    rw [mine_at, select_dec, hw]
    show (if s.val % 128 / 32 = t.val % 4 ∧ b.val = t.val / 16 then _ else _) = _
    by_cases hm : s.val % 128 / 32 = t.val % 4 ∧ b.val = t.val / 16
    · rw [if_pos hm, if_pos (by omega), sum_hit t _ hm.1]
      congr 1
      apply Fin.ext
      show s.val % 128 % 32 = s.val % 32
      omega
    · rw [if_neg hm, if_neg (by omega)]
  · rw [dif_neg, if_neg (by omega)]
    intro h
    have h1 : k0_off2 (cfg0.grid.coords t) 1 ≤ s.val ∧ s.val < k0_off2 (cfg0.grid.coords t) 1 + 128 := h 1
    rw [o1] at h1
    omega

end Cert.KernelIdeal.Body

end
-- ==== Proof.Stats.lean ====
/- The scales, the means and the reciprocal roots after the run: each point adds the entries of its 32 tokens, and
   the last one writes the arrays. -/
module

public import proofs.«01_k».proof.Proof.Flush
public import proofs.«01_k».proof.Proof.Lines

@[expose] public section

set_option maxRecDepth 16384

noncomputable section

namespace Cert.KernelIdeal.Body

open Idealize.ShloMosaic Idealize.ShloMosaic.TcCoe
open Idealize.ShloMosaic.Pipeline (Dat RDat Cfg Window)
open Cert.Fold Cert.KernelIdeal Cert.KernelIdeal.Gen

variable (m : (ℓ : Loc nD τ sig) → Buf (Elt Ideal) ℓ)

/-- The scales. -/
def scalesG (c : Dev nD) : S2x512.Idx → Elt Ideal .f32 := fun i => Spec.scale (Spec.ratio (normed m c (i 0) (i 1)))
/-- The means. -/
def meanG (c : Dev nD) : S2x512.Idx → Elt Ideal .f32 := fun i => Spec.mean (row m c (i 0) (i 1))
/-- The reciprocal roots. -/
def rstdG (c : Dev nD) : S2x512.Idx → Elt Ideal .f32 := fun i => Spec.rstd (row m c (i 0) (i 1))

theorem tok_split (t : Fin cfg0.N) (b : Fin 2) (s : Fin 512) (h : b.val = t.val / 16 ∧ s.val / 32 = t.val % 16) :
    tb _ (tok_lt t (⟨s.val % 32, by omega⟩ : Fin 32)) = b ∧ ts _ (tok_lt t (⟨s.val % 32, by omega⟩ : Fin 32)) = s := by
  have ht : t.val < 32 := t.isLt
  constructor
  · apply Fin.ext
    show (32 * t.val + s.val % 32) / 512 = b.val
    omega
  · apply Fin.ext
    show (32 * t.val + s.val % 32) % 512 = s.val
    omega

theorem scalesUpd_at (c : Dev nD) (ok : AffineOk m c) (t : Fin cfg0.N) (S : S2x512.Idx → Elt Ideal .f32) (b : Fin 2) (s : Fin 512) :
    scalesUpd m c t S (ix2 b s) = if b.val = t.val / 16 ∧ s.val / 32 = t.val % 16 then scalesG m c (ix2 b s) else S (ix2 b s) := by
  unfold scalesUpd
  rw [put_line t (scaleLine (cfg0.grid.coords t) (vV (bX m c t) (bA m c t) (bB m c t) (bR m c t) (bG m c t) (bBe m c t))) (fun r l => Ideal.ofBits .f32 (IntOp.shli .vector
    (expOf (vV (bX m c t) (bA m c t) (bB m c t) (bR m c t) (bG m c t) (bBe m c t)) (ix2 r l) + 127#32) 23#32))
    (fun old b l => line680_at _ _ _ _ _ old b l)]
  by_cases h : b.val = t.val / 16 ∧ s.val / 32 = t.val % 16
  · rw [if_pos h, if_pos h, expOf_at, vV_at, normB_eq, (tok_split t b s h).1, (tok_split t b s h).2]
    obtain ⟨h0, h1⟩ := normed_bound m c ok b s
    exact (scale_eq _ h0 h1).1
  · rw [if_neg h, if_neg h]

theorem meanUpd_at (c : Dev nD) (t : Fin cfg0.N) (S : S2x512.Idx → Elt Ideal .f32) (b : Fin 2) (s : Fin 512) :
    meanUpd m c t S (ix2 b s) = if b.val = t.val / 16 ∧ s.val / 32 = t.val % 16 then meanG m c (ix2 b s) else S (ix2 b s) := by
  unfold meanUpd
  rw [put_line t (meanLine (cfg0.grid.coords t) (meanV (bX m c t) (bA m c t) (bB m c t) (bR m c t))) (fun r l => meanV (bX m c t) (bA m c t) (bB m c t) (bR m c t) (ix2 r l)) (fun old b l => line1_at _ _ _ old b l)]
  by_cases h : b.val = t.val / 16 ∧ s.val / 32 = t.val % 16
  · rw [if_pos h, if_pos h, meanV_at, rowB_eq, (tok_split t b s h).1, (tok_split t b s h).2]
    rfl
  · rw [if_neg h, if_neg h]

theorem rstdUpd_at (c : Dev nD) (t : Fin cfg0.N) (S : S2x512.Idx → Elt Ideal .f32) (b : Fin 2) (s : Fin 512) :
    rstdUpd m c t S (ix2 b s) = if b.val = t.val / 16 ∧ s.val / 32 = t.val % 16 then rstdG m c (ix2 b s) else S (ix2 b s) := by
  unfold rstdUpd
  rw [put_line t (rstdLine (cfg0.grid.coords t) (rstdV (bX m c t) (bA m c t) (bB m c t) (bR m c t))) (fun r l => rstdV (bX m c t) (bA m c t) (bB m c t) (bR m c t) (ix2 r l)) (fun old b l => line2_at _ _ _ old b l)]
  by_cases h : b.val = t.val / 16 ∧ s.val / 32 = t.val % 16
  · rw [if_pos h, if_pos h, rstdV_at, rowB_eq, (tok_split t b s h).1, (tok_split t b s h).2]
    rfl
  · rw [if_neg h, if_neg h]

/-- What point `t` leaves holds the entries of the tokens up to its block's last. -/
theorem leaves7 (c : Dev nD) (ok : AffineOk m c) : ∀ (n : ℕ) (hn : n < cfg0.N) (X : S2x512.Idx → Elt Ideal .f32), (rdat m c).Leaves 7 ⟨n, hn⟩ X →
    ∀ (b : Fin 2) (s : Fin 512), b.val * 16 + s.val / 32 ≤ n → X (ix2 b s) = scalesG m c (ix2 b s) := by
  intro n
  induction n with
  | zero =>
    intro hn X hX b s hb
    obtain ⟨Y, _, rfl⟩ : ∃ Y, (rdat m c).Finds 7 ⟨0, hn⟩ Y ∧ X = scalesUpd m c ⟨0, hn⟩ Y := hX
    rw [scalesUpd_at m c ok, if_pos]
    show b.val = 0 / 16 ∧ s.val / 32 = 0 % 16
    omega
  | succ n ih =>
    intro hn X hX b s hb
    obtain ⟨Y, hY, rfl⟩ : ∃ Y, (rdat m c).Finds 7 ⟨n + 1, hn⟩ Y ∧ X = scalesUpd m c ⟨n + 1, hn⟩ Y := hX
    have hn' : n + 1 < 32 := hn
    have hL : (rdat m c).Leaves 7 ⟨n, by omega⟩ Y := by
      have h := ((rdat m c).finds_of_pos (w := 7) (t := ⟨n + 1, hn⟩) rfl (Nat.succ_ne_zero n) Y).mp hY
      refine h.resolve_left fun hf => ?_
      have : n % 32 = 31 := (flush0_7 _).mp hf
      omega
    rw [scalesUpd_at m c ok]
    by_cases h : b.val = (n + 1) / 16 ∧ s.val / 32 = (n + 1) % 16
    · rw [if_pos h]
    · rw [if_neg h]
      exact ih (by omega) Y hL b s (by omega)

theorem emb7 (t : Fin cfg0.N) (b : Fin 2) (s : Fin 512) : ((cfg0.win 7).blk t).view.emb (ix2 b s) = (ix2 b s : S2x512.Idx) := by
  funext a
  apply Fin.ext
  match a with
  | ⟨0, _⟩ => show 0 * 2 + 1 * b.val = b.val; omega
  | ⟨1, _⟩ => show 0 * 512 + 1 * s.val = s.val; omega

theorem arr7 (c : Dev nD) (ok : AffineOk m c) (after : (w' : Fin cfg0.W) → Fin cfg0.N → (cfg0.win w').block.Idx → Elt Ideal (cfg0.win w').elt)
    (h : ∀ t, (cfg0.win 7).flush t = true → (rdat m c).Leaves 7 t (after 7 t)) : ((rdat m c).withAfter after).arrAt 7 cfg0.N = scalesG m c := by
  refine ((rdat m c).withAfter after).arrAt_eq_of_cover 7 (scalesG m c) (fun t hf => ?_) (fun i => ?_)
  · show (cfg0.win 7).cut (cfg0.grid.coords t) (after 7 t) = _
    have ht : t.val % 32 = 31 := (flush0_7 t).mp hf
    have hlt : t.val < 32 := t.isLt
    funext x
    obtain ⟨b, s, rfl⟩ : ∃ (b : Fin 2) (s : Fin 512), x = ix2 b s := ⟨x 0, x 1, eq_ix2 x⟩
    refine (leaves7 m c ok t.val t.isLt _ (h t hf) b s (by omega)).trans ?_
    rw [View.read_apply, emb7]
    rfl
  · obtain ⟨b, s, rfl⟩ : ∃ (b : Fin 2) (s : Fin 512), i = ix2 b s := ⟨i 0, i 1, eq_ix2 i⟩
    refine ⟨⟨31, by decide⟩, (flush0_7 _).mpr rfl, ?_⟩
    have e := ((cfg0.win 7).blk ⟨31, by decide⟩).view.emb_mem_set (ix2 b s)
    rw [emb7] at e
    exact e

/-- What point `t` leaves holds the entries of the tokens up to its block's last. -/
theorem leaves9 (c : Dev nD) : ∀ (n : ℕ) (hn : n < cfg0.N) (X : S2x512.Idx → Elt Ideal .f32), (rdat m c).Leaves 9 ⟨n, hn⟩ X →
    ∀ (b : Fin 2) (s : Fin 512), b.val * 16 + s.val / 32 ≤ n → X (ix2 b s) = meanG m c (ix2 b s) := by
  intro n
  induction n with
  | zero =>
    intro hn X hX b s hb
    obtain ⟨Y, _, rfl⟩ : ∃ Y, (rdat m c).Finds 9 ⟨0, hn⟩ Y ∧ X = meanUpd m c ⟨0, hn⟩ Y := hX
    rw [meanUpd_at m c, if_pos]
    show b.val = 0 / 16 ∧ s.val / 32 = 0 % 16
    omega
  | succ n ih =>
    intro hn X hX b s hb
    obtain ⟨Y, hY, rfl⟩ : ∃ Y, (rdat m c).Finds 9 ⟨n + 1, hn⟩ Y ∧ X = meanUpd m c ⟨n + 1, hn⟩ Y := hX
    have hn' : n + 1 < 32 := hn
    have hL : (rdat m c).Leaves 9 ⟨n, by omega⟩ Y := by
      have h := ((rdat m c).finds_of_pos (w := 9) (t := ⟨n + 1, hn⟩) rfl (Nat.succ_ne_zero n) Y).mp hY
      refine h.resolve_left fun hf => ?_
      have : n % 32 = 31 := (flush0_9 _).mp hf
      omega
    rw [meanUpd_at m c]
    by_cases h : b.val = (n + 1) / 16 ∧ s.val / 32 = (n + 1) % 16
    · rw [if_pos h]
    · rw [if_neg h]
      exact ih (by omega) Y hL b s (by omega)

theorem emb9 (t : Fin cfg0.N) (b : Fin 2) (s : Fin 512) : ((cfg0.win 9).blk t).view.emb (ix2 b s) = (ix2 b s : S2x512.Idx) := by
  funext a
  apply Fin.ext
  match a with
  | ⟨0, _⟩ => show 0 * 2 + 1 * b.val = b.val; omega
  | ⟨1, _⟩ => show 0 * 512 + 1 * s.val = s.val; omega

theorem arr9 (c : Dev nD) (after : (w' : Fin cfg0.W) → Fin cfg0.N → (cfg0.win w').block.Idx → Elt Ideal (cfg0.win w').elt)
    (h : ∀ t, (cfg0.win 9).flush t = true → (rdat m c).Leaves 9 t (after 9 t)) : ((rdat m c).withAfter after).arrAt 9 cfg0.N = meanG m c := by
  refine ((rdat m c).withAfter after).arrAt_eq_of_cover 9 (meanG m c) (fun t hf => ?_) (fun i => ?_)
  · show (cfg0.win 9).cut (cfg0.grid.coords t) (after 9 t) = _
    have ht : t.val % 32 = 31 := (flush0_9 t).mp hf
    have hlt : t.val < 32 := t.isLt
    funext x
    obtain ⟨b, s, rfl⟩ : ∃ (b : Fin 2) (s : Fin 512), x = ix2 b s := ⟨x 0, x 1, eq_ix2 x⟩
    refine (leaves9 m c t.val t.isLt _ (h t hf) b s (by omega)).trans ?_
    rw [View.read_apply, emb9]
    rfl
  · obtain ⟨b, s, rfl⟩ : ∃ (b : Fin 2) (s : Fin 512), i = ix2 b s := ⟨i 0, i 1, eq_ix2 i⟩
    refine ⟨⟨31, by decide⟩, (flush0_9 _).mpr rfl, ?_⟩
    have e := ((cfg0.win 9).blk ⟨31, by decide⟩).view.emb_mem_set (ix2 b s)
    rw [emb9] at e
    exact e

/-- What point `t` leaves holds the entries of the tokens up to its block's last. -/
theorem leaves10 (c : Dev nD) : ∀ (n : ℕ) (hn : n < cfg0.N) (X : S2x512.Idx → Elt Ideal .f32), (rdat m c).Leaves 10 ⟨n, hn⟩ X →
    ∀ (b : Fin 2) (s : Fin 512), b.val * 16 + s.val / 32 ≤ n → X (ix2 b s) = rstdG m c (ix2 b s) := by
  intro n
  induction n with
  | zero =>
    intro hn X hX b s hb
    obtain ⟨Y, _, rfl⟩ : ∃ Y, (rdat m c).Finds 10 ⟨0, hn⟩ Y ∧ X = rstdUpd m c ⟨0, hn⟩ Y := hX
    rw [rstdUpd_at m c, if_pos]
    show b.val = 0 / 16 ∧ s.val / 32 = 0 % 16
    omega
  | succ n ih =>
    intro hn X hX b s hb
    obtain ⟨Y, hY, rfl⟩ : ∃ Y, (rdat m c).Finds 10 ⟨n + 1, hn⟩ Y ∧ X = rstdUpd m c ⟨n + 1, hn⟩ Y := hX
    have hn' : n + 1 < 32 := hn
    have hL : (rdat m c).Leaves 10 ⟨n, by omega⟩ Y := by
      have h := ((rdat m c).finds_of_pos (w := 10) (t := ⟨n + 1, hn⟩) rfl (Nat.succ_ne_zero n) Y).mp hY
      refine h.resolve_left fun hf => ?_
      have : n % 32 = 31 := (flush0_10 _).mp hf
      omega
    rw [rstdUpd_at m c]
    by_cases h : b.val = (n + 1) / 16 ∧ s.val / 32 = (n + 1) % 16
    · rw [if_pos h]
    · rw [if_neg h]
      exact ih (by omega) Y hL b s (by omega)

theorem emb10 (t : Fin cfg0.N) (b : Fin 2) (s : Fin 512) : ((cfg0.win 10).blk t).view.emb (ix2 b s) = (ix2 b s : S2x512.Idx) := by
  funext a
  apply Fin.ext
  match a with
  | ⟨0, _⟩ => show 0 * 2 + 1 * b.val = b.val; omega
  | ⟨1, _⟩ => show 0 * 512 + 1 * s.val = s.val; omega

theorem arr10 (c : Dev nD) (after : (w' : Fin cfg0.W) → Fin cfg0.N → (cfg0.win w').block.Idx → Elt Ideal (cfg0.win w').elt)
    (h : ∀ t, (cfg0.win 10).flush t = true → (rdat m c).Leaves 10 t (after 10 t)) : ((rdat m c).withAfter after).arrAt 10 cfg0.N = rstdG m c := by
  refine ((rdat m c).withAfter after).arrAt_eq_of_cover 10 (rstdG m c) (fun t hf => ?_) (fun i => ?_)
  · show (cfg0.win 10).cut (cfg0.grid.coords t) (after 10 t) = _
    have ht : t.val % 32 = 31 := (flush0_10 t).mp hf
    have hlt : t.val < 32 := t.isLt
    funext x
    obtain ⟨b, s, rfl⟩ : ∃ (b : Fin 2) (s : Fin 512), x = ix2 b s := ⟨x 0, x 1, eq_ix2 x⟩
    refine (leaves10 m c t.val t.isLt _ (h t hf) b s (by omega)).trans ?_
    rw [View.read_apply, emb10]
    rfl
  · obtain ⟨b, s, rfl⟩ : ∃ (b : Fin 2) (s : Fin 512), i = ix2 b s := ⟨i 0, i 1, eq_ix2 i⟩
    refine ⟨⟨31, by decide⟩, (flush0_10 _).mpr rfl, ?_⟩
    have e := ((cfg0.win 10).blk ⟨31, by decide⟩).view.emb_mem_set (ix2 b s)
    rw [emb10] at e
    exact e

end Cert.KernelIdeal.Body

end
-- ==== Proof.MaskVals.lean ====
/- The mask bytes after the run: word by word, then byte by byte. -/
module

public import proofs.«01_k».proof.Proof.Flush
public import Idealize.ShloMosaic.Lib.BitcastFour

@[expose] public section

set_option maxRecDepth 16384

noncomputable section

namespace Cert.KernelIdeal.Body

open Idealize.ShloMosaic Idealize.ShloMosaic.TcCoe
open Idealize.ShloMosaic.Pipeline (Dat RDat Cfg Window)
open Cert.Fold Cert.KernelIdeal Cert.KernelIdeal.Gen
open scoped BigOperators

variable (m : (ℓ : Loc nD τ sig) → Buf (Elt Ideal) ℓ)

theorem word_at (v : IVec S32x128 32) (l : Fin 128) :
    k0_pay61 (k0_pay65 (F := Ideal) k0_pay56 v) (ix2 (0 : Fin 1) l)
      = Finset.univ.fold IntOp.addi 0#32 fun r : Fin 32 => Scalar.select (Spec.keep (v (ix2 r l))) ((1#32 : BitVec 32) <<< r.val) 0#32 := by
  unfold_payloads
  pointwise
  have sh : ∀ x : Fin 32, IntOp.shli .vector (1#32) (BitVec.ofNat 32 x.val) = (1#32 : BitVec 32) <<< x.val := by decide +kernel
  refine congrArg (fun f : Fin 32 → BitVec 32 => Finset.univ.fold IntOp.addi 0#32 f) (funext fun x => ?_)
  rw [sh]
  rfl

theorem byte_at (w : IVec S8x128 32) (i : Fin 32) (l : Fin 128) (q : ℕ) (hq : q < 8) :
    (k0_pay675 (F := Ideal) w (ix2 i l)).getLsbD q = (w (ix2 (⟨i.val / 4, by omega⟩ : Fin 8) l)).getLsbD (i.val % 4 * 8 + q) := by
  unfold k0_pay675
  show (bitcast S32x128 8 w bitcasts_S8x128_w32_S32x128_w8 (ix2 i l)).getLsbD q = _
  rw [bitcast_getLsbD w _ _ q hq (by decide)]
  have e : (S32x128.row (ix2 i l) * 8 + q) % 32 = i.val % 4 * 8 + q := by
    show (i.val * 8 + q) % 32 = _
    omega
  rw [e]
  congr 2
  funext a
  match a with
  | ⟨0, _⟩ =>
    refine Fin.ext ((Shape.Bitcasts.srcIdx_row _ _ _ _ ⟨0, Nat.zero_lt_two⟩ rfl).trans ?_)
    show (i.val * 8 + q) / 32 = i.val / 4
    omega
  | ⟨1, _⟩ => exact Fin.ext (Shape.Bitcasts.srcIdx_other _ _ _ _ ⟨1, Nat.one_lt_two⟩ (by show ¬ 1 + 2 = 2; omega))

theorem keep_bit (f : BitVec 1) (n : Fin 32) (i : ℕ) :
    (Scalar.select f ((1#32 : BitVec 32) <<< n.val) 0#32).getLsbD i = (decide (i = n.val) && f.getLsbD 0) := by
  have hf : f = 0#1 ∨ f = 1#1 := by revert f; decide
  rcases hf with rfl | rfl
  · show (0#32).getLsbD i = _
    simp
  · show ((1#32 : BitVec 32) <<< n.val).getLsbD i = (decide (i = n.val) && true)
    rw [Bool.and_true]
    by_cases hi : i < 32
    · have h : ∀ n i : Fin 32, ((1#32 : BitVec 32) <<< n.val).getLsbD i.val = decide (i.val = n.val) := by decide +kernel
      exact h n ⟨i, hi⟩
    · rw [BitVec.getLsbD_of_ge _ _ (by omega), eq_comm, decide_eq_false]
      omega

theorem fold_last {n : ℕ} (g : Fin (n + 1) → BitVec 32) :
    Finset.univ.fold IntOp.addi 0#32 g = g (Fin.last n) + Finset.univ.fold IntOp.addi 0#32 fun r : Fin n => g r.castSucc := by
  rw [Fin.univ_castSuccEmb, Finset.fold_cons, Finset.fold_map]
  rfl

/-- A sum of distinct powers of two has the bits of its terms. -/
theorem sum_bits (f : ℕ → BitVec 1) (n : ℕ) (hn : n ≤ 32) (i : ℕ) :
    (Finset.univ.fold IntOp.addi 0#32 fun r : Fin n => Scalar.select (f r.val) ((1#32 : BitVec 32) <<< r.val) 0#32).getLsbD i
      = (decide (i < n) && (f i).getLsbD 0) := by
  induction n generalizing i with
  | zero => simp
  | succ n ih =>
    rw [fold_last]
    have h := ih (by omega)
    have hb := keep_bit (f n) ⟨n, by omega⟩
    change ∀ i, (Scalar.select (f n) ((1#32 : BitVec 32) <<< n) 0#32).getLsbD i = (decide (i = n) && (f n).getLsbD 0) at hb
    show (Scalar.select (f n) ((1#32 : BitVec 32) <<< n) 0#32 + Finset.univ.fold IntOp.addi 0#32 fun r : Fin n => Scalar.select (f r.val) ((1#32 : BitVec 32) <<< r.val) 0#32).getLsbD i = _
    rw [BitVec.add_eq_or_of_and_eq_zero]
    · rw [BitVec.getLsbD_or, h, hb]
      by_cases h1 : i = n
      · subst h1; simp
      · have : (decide (i < n + 1)) = decide (i < n) := by rw [decide_eq_decide]; omega
        simp only [h1, this, decide_false, Bool.false_and, Bool.false_or]
    · apply BitVec.eq_of_getLsbD_eq
      intro j hj
      rw [BitVec.getLsbD_and, h, hb]
      by_cases h1 : j = n
      · subst h1; simp
      · simp [h1]

theorem host_shift : ∀ (f : BitVec 1) (j : Fin 8), IntOp.shli .host (BitVec.setWidth 32 f) (BitVec.ofNat 32 j.val) = Scalar.select f ((1#32 : BitVec 32) <<< j.val) 0#32 := by
  decide +kernel

/-- Eight of the word's bits are the mask byte of their eight tokens. -/
theorem byte_of_word (r : Fin 32 → BitVec 32) (k : Fin 4) (q : ℕ) (hq : q < 8) :
    (Finset.univ.fold IntOp.addi 0#32 fun x : Fin 32 => Scalar.select (Spec.keep (r x)) ((1#32 : BitVec 32) <<< x.val) 0#32).getLsbD (k.val * 8 + q)
      = (Spec.maskByte fun j : Fin 8 => r ⟨k.val * 8 + j.val, by omega⟩).getLsbD q := by
  have h1 := sum_bits (fun x => Spec.keep (r ⟨x % 32, by omega⟩)) 32 (by omega) (k.val * 8 + q)
  have e1 : (fun x : Fin 32 => Scalar.select (Spec.keep (r ⟨x.val % 32, by omega⟩)) ((1#32 : BitVec 32) <<< x.val) 0#32)
      = fun x : Fin 32 => Scalar.select (Spec.keep (r x)) ((1#32 : BitVec 32) <<< x.val) 0#32 := by
    funext x
    have : (⟨x.val % 32, by omega⟩ : Fin 32) = x := Fin.ext (Nat.mod_eq_of_lt x.isLt)
    rw [this]
  have h2 := sum_bits (fun x => Spec.keep (r ⟨(k.val * 8 + x) % 32, by omega⟩)) 8 (by omega) q
  have e2 : (fun x : Fin 8 => Scalar.select (Spec.keep (r ⟨(k.val * 8 + x.val) % 32, by omega⟩)) ((1#32 : BitVec 32) <<< x.val) 0#32)
      = fun x : Fin 8 => IntOp.shli .host (BitVec.setWidth 32 (Spec.keep (r ⟨k.val * 8 + x.val, by omega⟩))) (BitVec.ofNat 32 x.val) := by
    funext x
    have : (⟨(k.val * 8 + x.val) % 32, by omega⟩ : Fin 32) = ⟨k.val * 8 + x.val, by omega⟩ := Fin.ext (Nat.mod_eq_of_lt (by omega))
    rw [this, host_shift]
  rw [e1] at h1
  rw [e2] at h2
  unfold Spec.maskByte
  rw [BitVec.getLsbD_setWidth, h1, h2]
  simp [hq, show k.val * 8 + q < 32 by omega]

/-! ## One tile of words -/

theorem tileW_at {α : Type} (W : SW.Idx → α) (j : Fin 56) (q : Fin 8) (l : Fin 128) :
    tileW W j (ix2 q l) = W (ix2 (⟨8 * j.val + q.val, by omega⟩ : Fin 448) l) := by
  show W _ = W _
  congr 1
  funext a
  apply Fin.ext
  match a with
  | ⟨0, _⟩ => show 8 * j.val + 1 * q.val = 8 * j.val + q.val; omega
  | ⟨1, _⟩ => show 0 + 1 * l.val = l.val; omega

theorem wordsAt_at (c : Dev nD) (g : ℕ) (j : Fin 56) (q : Fin 8) (l : Fin 128) :
    wordsAt m c g (ix2 (⟨8 * j.val + q.val, by omega⟩ : Fin 448) l)
      = Finset.univ.fold IntOp.addi 0#32 fun r : Fin 32 => Scalar.select (Spec.keep ((randAt m c (8 * g + q.val) : IVec S32x7168 32) (ix2 r (col j l)))) ((1#32 : BitVec 32) <<< r.val) 0#32 := by
  have e1 : (8 * j.val + q.val) % 8 = q.val := by omega
  have e2 : (⟨(8 * j.val + q.val) / 8, by omega⟩ : Fin 56) = j := Fin.ext (by show (8 * j.val + q.val) / 8 = j.val; omega)
  show wordTile pays (randAt m c (8 * g + (8 * j.val + q.val) % 8)) (⟨(8 * j.val + q.val) / 8, by omega⟩ : Fin 56) (ix2 (0 : Fin 1) l) = _
  rw [e1, e2]
  refine (word_at _ l).trans ?_
  refine congrArg (fun f : Fin 32 → BitVec 32 => Finset.univ.fold IntOp.addi 0#32 f) (funext fun x => ?_)
  rw [tileB_at]

theorem randAt_at (c : Dev nD) (n : ℕ) (hn : n < 32) (r : Fin 32) (k : Fin 7168) :
    (randAt m c n : IVec S32x7168 32) (ix2 r k)
      = (m (c, main_arg3) : IVec S2x512x7168 32) (ix3 (tb (32 * n + r.val) (by omega)) (ts (32 * n + r.val) (by omega)) k) := by
  have hN : n < cfg0.N := hn
  have e : randAt m c n = bR m c (⟨n, hN⟩ : Fin cfg0.N) := by
    unfold randAt
    congr 1
    exact Fin.ext (Nat.mod_eq_of_lt hn)
  rw [e]
  exact (bR_v3 m c ⟨n, hN⟩ r k).trans (v3_at m c _ k)

/-- The mask after the run. -/
def maskG (c : Dev nD) : S128x7168.Idx → Elt Ideal .i8 := fun i => Spec.maskByte fun j : Fin 8 =>
  (m (c, main_arg3) : IVec S2x512x7168 32) (ix3 (⟨(i 0).val / 64, by have : (i 0).val < 128 := (i 0).isLt; omega⟩ : Fin 2) (⟨(i 0).val % 64 * 8 + j.val, by omega⟩ : Fin 512) (i 1))

theorem maskAt_at (c : Dev nD) (g : ℕ) (hg : g < 4) (i : Fin 32) (k : Fin 7168) :
    maskAt m c g (ix2 i k) = maskG m c (ix2 (⟨32 * g + i.val, by omega⟩ : Fin 128) k) := by
  unfold maskAt
  rw [whole_at]
  refine BitVec.eq_of_getLsbD_eq (fun q hq => ?_)
  refine (byte_at _ i _ q hq).trans ?_
  rw [tileW_at, wordsAt_at]
  refine (byte_of_word (fun r => (randAt m c (8 * g + i.val / 4) : IVec S32x7168 32) (ix2 r (col ⟨k.val / 128, by omega⟩ ⟨k.val % 128, by omega⟩))) ⟨i.val % 4, by omega⟩ q hq).trans ?_
  show _ = (Spec.maskByte fun j : Fin 8 => (m (c, main_arg3) : IVec S2x512x7168 32) (ix3 (⟨(32 * g + i.val) / 64, by omega⟩ : Fin 2) (⟨(32 * g + i.val) % 64 * 8 + j.val, by omega⟩ : Fin 512) k)).getLsbD q
  refine congrArg (fun f : Fin 8 → BitVec 32 => (Spec.maskByte f).getLsbD q) (funext fun j => ?_)
  rw [randAt_at m c _ (by omega)]
  congr 1
  have ek : col ⟨k.val / 128, by omega⟩ ⟨k.val % 128, by omega⟩ = k := Fin.ext (by show 128 * (k.val / 128) + k.val % 128 = k.val; omega)
  rw [ek]
  congr 1
  · apply Fin.ext
    show (32 * (8 * g + i.val / 4) + (i.val % 4 * 8 + j.val)) / 512 = (32 * g + i.val) / 64
    omega
  · apply Fin.ext
    show (32 * (8 * g + i.val / 4) + (i.val % 4 * 8 + j.val)) % 512 = (32 * g + i.val) % 64 * 8 + j.val
    omega

/-! ## The mask's blocks -/

theorem mask_row : ∀ t : Fin cfg0.N, cc0_transform_8 (cfg0.grid.coords t) 0 = t.val / 8 := by
  decide +kernel

theorem emb8 (t : Fin cfg0.N) (i : Fin 32) (k : Fin 7168) :
    ((cfg0.win 8).blk t).view.emb (ix2 i k) = (ix2 (⟨32 * (t.val / 8) + i.val, by have : t.val < 32 := t.isLt; omega⟩ : Fin 128) k : S128x7168.Idx) := by
  funext a
  apply Fin.ext
  match a with
  | ⟨0, _⟩ =>
    show cc0_transform_8 (cfg0.grid.coords t) 0 * 32 + 1 * i.val = 32 * (t.val / 8) + i.val
    rw [mask_row t]; omega
  | ⟨1, _⟩ => show 0 * 7168 + 1 * k.val = k.val; omega

/-- The point that writes row `n` of the mask. -/
abbrev ptMask (n : Fin 128) : Fin cfg0.N := ⟨n.val / 32 * 8 + 7, by show n.val / 32 * 8 + 7 < 32; omega⟩

theorem arr8 (c : Dev nD) (after : (w' : Fin cfg0.W) → Fin cfg0.N → (cfg0.win w').block.Idx → Elt Ideal (cfg0.win w').elt)
    (h : ∀ t : Fin cfg0.N, t.val % 8 = 7 → after 8 t = maskAt m c (t.val / 8)) : ((rdat m c).withAfter after).arrAt 8 cfg0.N = maskG m c := by
  refine ((rdat m c).withAfter after).arrAt_eq_of_cover 8 (maskG m c) (fun t hf => ?_) (fun i => ?_)
  · show (cfg0.win 8).cut (cfg0.grid.coords t) (after 8 t) = _
    have hlt : t.val < 32 := t.isLt
    rw [h t ((flush0_8 t).mp hf)]
    funext x
    obtain ⟨r, k, rfl⟩ : ∃ (r : Fin 32) (k : Fin 7168), x = ix2 r k := ⟨x 0, x 1, eq_ix2 x⟩
    refine (maskAt_at m c (t.val / 8) (by omega) r k).trans ?_
    rw [View.read_apply, emb8]
    rfl
  · obtain ⟨n, k, rfl⟩ : ∃ (n : Fin 128) (k : Fin 7168), i = ix2 n k := ⟨i 0, i 1, eq_ix2 i⟩
    refine ⟨ptMask n, (flush0_8 _).mpr (by show (n.val / 32 * 8 + 7) % 8 = 7; omega), ?_⟩
    have e := ((cfg0.win 8).blk (ptMask n)).view.emb_mem_set (ix2 (⟨n.val % 32, by omega⟩ : Fin 32) k)
    rw [emb8] at e
    have es : (ix2 (⟨32 * ((n.val / 32 * 8 + 7) / 8) + n.val % 32, by omega⟩ : Fin 128) k : S128x7168.Idx) = ix2 n k := by
      congr 1
      apply Fin.ext
      show 32 * ((n.val / 32 * 8 + 7) / 8) + n.val % 32 = n.val
      omega
    rw [← es]
    exact e

end Cert.KernelIdeal.Body

end
-- ==== Proof.KernelRun.lean ====
/- What the kernel leaves: its six results, element by element, and its arguments unchanged. -/
module

public import proofs.«01_k».proof.Proof.Stats
public import proofs.«01_k».proof.Proof.MaskVals

@[expose] public section

set_option maxRecDepth 16384

noncomputable section

namespace Cert.KernelIdeal.Body

open Idealize.ShloMosaic Idealize.ShloMosaic.TcCoe Idealize.SL.Sem
open Idealize.ShloMosaic.Pipeline (Dat RDat Cfg Window)
open Cert.Fold Cert.KernelIdeal Cert.KernelIdeal.Gen

variable (m : (ℓ : Loc nD τ sig) → Buf (Elt Ideal) ℓ) (ρ : Dev nD → PrngReg)

/-- Every execution of the kernel ends with the six results at these values. -/
theorem run (ok : ∀ c, AffineOk m c) : θ_run defs (onTc (τ := τ) (main (F := Ideal))) ⟨m, fun _ => 0, ρ⟩ (fun r => ∀ c : Dev nD,
      r.2.mem ((c.tc : Thread nD τ).loc main_v6_0) = codesG m c
      ∧ r.2.mem ((c.tc : Thread nD τ).loc main_v6_1) = scalesG m c
      ∧ r.2.mem ((c.tc : Thread nD τ).loc main_v6_2) = maskG m c
      ∧ r.2.mem ((c.tc : Thread nD τ).loc main_v6_3) = meanG m c
      ∧ r.2.mem ((c.tc : Thread nD τ).loc main_v6_4) = rstdG m c
      ∧ r.2.mem ((c.tc : Thread nD τ).loc main_v6_5) = hG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  obtain ⟨after, hL, hA⟩ := RDat.FramePost.exists_exact h.1 c
  refine ⟨?_, ?_, ?_, ?_, ?_, ?_,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩
  · refine (hA 6).trans (arr6 m c (ok c) after (fun t => ?_))
    obtain ⟨Y, _, e⟩ := hL 6 t (flush0_6 t)
    exact e
  · exact (hA 7).trans (arr7 m c (ok c) after (fun t hf => hL 7 t hf))
  · refine (hA 8).trans (arr8 m c after (fun t ht => ?_))
    obtain ⟨Y, _, e⟩ := hL 8 t ((flush0_8 t).mpr ht)
    exact e ht
  · exact (hA 9).trans (arr9 m c after (fun t hf => hL 9 t hf))
  · exact (hA 10).trans (arr10 m c after (fun t hf => hL 10 t hf))
  · refine (hA 11).trans (arr11 m c after (fun t => ?_))
    obtain ⟨Y, _, e⟩ := hL 11 t (flush0_11 t)
    exact e

end Cert.KernelIdeal.Body

end
-- ==== Proof.RefValues.lean ====
/- What the reference's host operations compute, element by element. -/
module

public import proofs.«01_k».proof.Proof.Spec
public import proofs.«01_k».proof.Proof.Gen.ReferenceIdeal.Value
public import Idealize.ShloMosaic.Lib.StableHlo.ReadAt
public import Idealize.ShloMosaic.Lib.Pointwise
public import Idealize.ShloMosaic.Lib.IdealHost

@[expose] public section

set_option maxRecDepth 16384

noncomputable section

namespace Cert.ReferenceIdeal.Leg

open Idealize.ShloMosaic Idealize.ShloMosaic.TcCoe
open Cert.ReferenceIdeal Cert.ReferenceIdeal.Gen

variable (m : (ℓ : Loc nD τ sig) → Buf (Elt Ideal) ℓ)

/-- The residual sums of a token. -/
def row (c : Dev nD) (b : Fin 2) (s : Fin 512) : Spec.Row := fun k =>
  Spec.resid ((m ((c, main_arg3)) : IVec S2x512x7168 32) (ix3 b s k)) ((m ((c, main_arg1)) : FVec Ideal S2x512x7168 .bf16) (ix3 b s k))
    ((m ((c, main_arg2)) : FVec Ideal S7168 .bf16) (ix1 k)) ((m ((c, main_arg0)) : FVec Ideal S2x512x7168 .bf16) (ix3 b s k))

/-- The normalised elements of a token. -/
def normed (c : Dev nD) (b : Fin 2) (s : Fin 512) : Spec.Row := Spec.norm (row m c b s)
  (fun k => (m ((c, main_arg4)) : FVec Ideal S7168 .f32) (ix1 k)) (fun k => (m ((c, main_arg5)) : FVec Ideal S7168 .f32) (ix1 k))

theorem div_width (x : EReal) : Ideal.div x (Ideal.ofBits .f32 0x45E00000#32) = x * ((1 / 7168 : ℝ) : EReal) := by
  have h : Ideal.ofBits .f32 0x45E00000#32 = ((7168 : ℝ) : EReal) := by
    simp [Ideal.ofBits, Ideal.ieee]
    norm_cast
    norm_num
  rw [h, Ideal.div_coe (by norm_num)]

theorem zero_at : (constant (F := Ideal) S_ .f32 0x00000000#32) ix0 = (0 : EReal) := Ideal.ofBits_zero_f32

theorem v11 (c : Dev nD) (b : Fin 2) (s : Fin 512) (k : Fin 7168) :
    (V m c main_v11 : FVec Ideal S2x512x7168 .bf16) (ix3 b s k) = row m c b s k := by
  unfold V
  after_reads_at
  simp only [id, zero_at]
  rfl

/-- The host operations before the region. -/
abbrev ops : List (HloOp τ sig (Elt Ideal)) := List.flatten [hostOps0, hostOps0_1, hostOps0_2, hostOps0_3, hostOps0_4]

/-- Every buffer is what the operations after the first `n` make of the contents before them. -/
theorem V_split (n : ℕ) (c : Dev nD) : ∃ W : Valuation τ sig (Elt Ideal), ∀ b : Ref sig .tc,
    V m c b = StableHlo.after (List.drop n ops) W b :=
  ⟨StableHlo.upto ops (fun b => m (c, b)) n, fun b => by
    unfold V StableHlo.upto
    rw [← Idealize.ShloMosaic.StableHlo.after_append, List.take_append_drop]⟩

/-- An element of a buffer over tokens and features. -/
abbrev e3 {φ : FTy} (x : FVec Ideal S2x512x7168 φ) (b : Fin 2) (s : Fin 512) (k : Fin 7168) : EReal := x (ix3 b s k)
/-- An element of a buffer over tokens. -/
abbrev e2 (x : FVec Ideal S2x512 .f32) (b : Fin 2) (s : Fin 512) : EReal := x (ix2 b s)

theorem reduceMax (x : FVec Ideal S2x512x7168 .f32) (b : Fin 2) (s : Fin 512) :
    Host.reduce FloatOps.maximumf x (constant (F := Ideal) S_ .f32 0xFF800000#32) reducesTo_S2x512x7168_S2x512_d2 h_S_ (ix2 b s)
      = Finset.univ.fold max (Ideal.ofBits .f32 0xFF800000#32) fun k => x (ix3 b s k) := by
  have hr : S2x512x7168.Reduces [2] S2x512 := by decide +kernel
  rw [Host.reduce_eq_fold_single _ _ _ _ hr]
  have e : ∀ k : Fin 7168, hr.lift (ix2 b s) k = ix3 b s k := by
    intro k
    funext a
    apply Fin.ext
    fin_cases a <;> rfl
  have e' : (x ∘ hr.lift (ix2 b s)) = fun k : Fin 7168 => x (ix3 b s k) := funext fun k => congrArg x (e k)
  rw [e']
  rfl

theorem v12 (c : Dev nD) (b : Fin 2) (s : Fin 512) (k : Fin 7168) :
    e3 (φ := .f32) (V m c main_v12) b s k = e3 (φ := .bf16) (V m c main_v11) b s k := by
  obtain ⟨W, h⟩ := V_split m 17 c
  simp only [h]
  after_reads_at

theorem v15 (c : Dev nD) (b : Fin 2) (s : Fin 512) :
    e2 (V m c main_v15) b s
      = Ideal.div (∑ k : Fin 7168, e3 (φ := .f32) (V m c main_v12) b s k) (Ideal.ofBits .f32 0x45E00000#32) := by
  obtain ⟨W, h⟩ := V_split m 18 c
  simp only [h]
  after_reads_at

theorem v18 (c : Dev nD) (b : Fin 2) (s : Fin 512) (k : Fin 7168) :
    e3 (φ := .f32) (V m c main_v18) b s k = e3 (φ := .f32) (V m c main_v12) b s k - e2 (V m c main_v15) b s := by
  obtain ⟨W, h⟩ := V_split m 23 c
  simp only [h]
  after_reads_at

theorem v25 (c : Dev nD) (b : Fin 2) (s : Fin 512) :
    e2 (V m c main_v25) b s
      = Ideal.rsqrt (Ideal.div (∑ k : Fin 7168, e3 (φ := .f32) (V m c main_v18) b s k * e3 (φ := .f32) (V m c main_v18) b s k)
          (Ideal.ofBits .f32 0x45E00000#32) + Ideal.ofBits .f32 0x3727C5AC#32) := by
  obtain ⟨W, h⟩ := V_split m 26 c
  simp only [h]
  after_reads_at

theorem v34 (c : Dev nD) (b : Fin 2) (s : Fin 512) (k : Fin 7168) :
    e3 (φ := .f32) (V m c main_v34) b s k
      = e3 (φ := .f32) (V m c main_v18) b s k * e2 (V m c main_v25) b s
          * (V m c main_arg4 : FVec Ideal S7168 .f32) (ix1 k) + (V m c main_arg5 : FVec Ideal S7168 .f32) (ix1 k) := by
  obtain ⟨W, h⟩ := V_split m 36 c
  simp only [h]
  after_reads_at

theorem v35 (c : Dev nD) (b : Fin 2) (s : Fin 512) (k : Fin 7168) :
    e3 (φ := .f32) (V m c main_v35) b s k = max (e3 (φ := .f32) (V m c main_v34) b s k) (-(e3 (φ := .f32) (V m c main_v34) b s k)) := by
  obtain ⟨W, h⟩ := V_split m 45 c
  simp only [h]
  after_reads_at
  rfl

theorem v36 (c : Dev nD) (b : Fin 2) (s : Fin 512) :
    e2 (V m c main_v36) b s = Finset.univ.fold max (Ideal.ofBits .f32 0xFF800000#32) fun k => e3 (φ := .f32) (V m c main_v35) b s k := by
  obtain ⟨W, h⟩ := V_split m 46 c
  simp only [h]
  after_reads_simp
  exact reduceMax _ b s

theorem v38 (c : Dev nD) (b : Fin 2) (s : Fin 512) :
    e2 (V m c main_v38) b s = e2 (V m c main_v36) b s * Ideal.ofBits .f32 0x3B124925#32 := by
  obtain ⟨W, h⟩ := V_split m 48 c
  simp only [h]
  after_reads_at

theorem v50 (c : Dev nD) (b : Fin 2) (s : Fin 512) :
    e2 (V m c main_v50) b s = Spec.scale (e2 (V m c main_v38) b s) := by
  obtain ⟨W, h⟩ := V_split m 51 c
  simp only [h]
  after_reads_at
  simp only [id, zero_at]
  rfl

theorem v53 (c : Dev nD) (b : Fin 2) (s : Fin 512) :
    e2 (V m c main_v53) b s = Spec.invScale (e2 (V m c main_v38) b s) := by
  obtain ⟨W, h⟩ := V_split m 51 c
  simp only [h]
  after_reads_at
  simp only [id, zero_at]
  rfl

theorem v68 (c : Dev nD) (n : Fin 1024) (k : Fin 7168) :
    (V m c main_v68 : FVec Ideal S1024x7168 .f32) (ix2 n k)
      = e3 (φ := .f32) (V m c main_v34) (⟨n.val / 512, by omega⟩ : Fin 2) (⟨n.val % 512, by omega⟩ : Fin 512) k
        * e2 (V m c main_v53) (⟨n.val / 512, by omega⟩ : Fin 2) (⟨n.val % 512, by omega⟩ : Fin 512) := by
  obtain ⟨W, h⟩ := V_split m 74 c
  simp only [h]
  after_reads_at

theorem v67 (c : Dev nD) (n : Fin 1024) (k : Fin 7168) :
    (V m c main_v67 : FVec Ideal S1024x7168 .bf16) (ix2 n k)
      = e3 (φ := .bf16) (V m c main_v11) (⟨n.val / 512, by omega⟩ : Fin 2) (⟨n.val % 512, by omega⟩ : Fin 512) k := by
  obtain ⟨W, h⟩ := V_split m 74 c
  simp only [h]
  after_reads_at

theorem kept4 (c : Dev nD) : V m c main_arg4 = m (c, main_arg4) := by exact V_main_arg4 m c
theorem kept5 (c : Dev nD) : V m c main_arg5 = m (c, main_arg5) := by exact V_main_arg5 m c

theorem v66 (c : Dev nD) (b : Fin 128) (k : Fin 7168) :
    (V m c main_v66 : IVec S128x7168 8) (ix2 b k) = Spec.maskByte fun j =>
      (m ((c, main_arg3)) : IVec S2x512x7168 32) (ix3 (⟨b.val / 64, by omega⟩ : Fin 2) (⟨b.val % 64 * 8 + j.val, by omega⟩ : Fin 512) k) := by
  unfold V
  after_reads_at
  rfl

/-! ## In terms of the token's mathematics -/

theorem neg_inf : Ideal.ofBits .f32 0xFF800000#32 = (⊥ : EReal) := by
  simp [Ideal.ofBits, Ideal.ieee]

theorem e12 (c : Dev nD) (b : Fin 2) (s : Fin 512) (k : Fin 7168) : e3 (φ := .f32) (V m c main_v12) b s k = row m c b s k :=
  (v12 m c b s k).trans (v11 m c b s k)

theorem mean_at (c : Dev nD) (b : Fin 2) (s : Fin 512) : e2 (V m c main_v15) b s = Spec.mean (row m c b s) := by
  rw [v15, div_width, Finset.sum_congr rfl fun k _ => e12 m c b s k]
  rfl

theorem centred_at (c : Dev nD) (b : Fin 2) (s : Fin 512) (k : Fin 7168) :
    e3 (φ := .f32) (V m c main_v18) b s k = Spec.centred (row m c b s) k := by
  rw [v18, e12, mean_at]
  rfl

theorem rstd_at (c : Dev nD) (b : Fin 2) (s : Fin 512) : e2 (V m c main_v25) b s = Spec.rstd (row m c b s) := by
  rw [v25, div_width, Finset.sum_congr rfl fun k _ => congrArg₂ (· * ·) (centred_at m c b s k) (centred_at m c b s k)]
  rfl

theorem norm_at (c : Dev nD) (b : Fin 2) (s : Fin 512) (k : Fin 7168) :
    e3 (φ := .f32) (V m c main_v34) b s k = normed m c b s k := by
  rw [v34, centred_at, rstd_at, kept4, kept5]
  rfl

theorem ratio_at (c : Dev nD) (b : Fin 2) (s : Fin 512) : e2 (V m c main_v38) b s = Spec.ratio (normed m c b s) := by
  have e : (fun k => e3 (φ := .f32) (V m c main_v35) b s k) = fun k => max (normed m c b s k) (-(normed m c b s k)) := by
    funext k
    rw [v35, norm_at]
  rw [v38, v36, neg_inf, e]
  rfl

theorem scale_at (c : Dev nD) (b : Fin 2) (s : Fin 512) : e2 (V m c main_v50) b s = Spec.scale (Spec.ratio (normed m c b s)) := by
  rw [v50, ratio_at]

/-- What the region reads: the normalised elements over their scales. -/
theorem scaled_at (c : Dev nD) (n : Fin 1024) (k : Fin 7168) :
    (V m c main_v68 : FVec Ideal S1024x7168 .f32) (ix2 n k)
      = normed m c (⟨n.val / 512, by omega⟩ : Fin 2) (⟨n.val % 512, by omega⟩ : Fin 512) k
        * Spec.invScale (Spec.ratio (normed m c (⟨n.val / 512, by omega⟩ : Fin 2) (⟨n.val % 512, by omega⟩ : Fin 512))) := by
  rw [v68, norm_at, v53, ratio_at]

end Cert.ReferenceIdeal.Leg
end
-- ==== Proof.RefRun.lean ====
/- What the reference leaves: its six results, element by element, and its arguments unchanged. -/
module

public import proofs.«01_k».proof.Proof.RefValues

@[expose] public section

set_option maxRecDepth 16384

noncomputable section

namespace Cert.ReferenceIdeal.Leg

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The codes. -/
def codesR (c : Dev nD) : S1024x7168.Idx → Elt Ideal .fp8e4m3 := fun i =>
  Spec.code (normed m c (⟨(i 0).val / 512, by have : (i 0).val < 1024 := (i 0).isLt; omega⟩ : Fin 2) (⟨(i 0).val % 512, by omega⟩ : Fin 512) (i 1))
    (Spec.invScale (Spec.ratio (normed m c (⟨(i 0).val / 512, by have : (i 0).val < 1024 := (i 0).isLt; omega⟩ : Fin 2) (⟨(i 0).val % 512, by omega⟩ : Fin 512))))
/-- The scales. -/
def scalesR (c : Dev nD) : S2x512.Idx → Elt Ideal .f32 := fun i => Spec.scale (Spec.ratio (normed m c (i 0) (i 1)))
/-- The mask. -/
def maskR (c : Dev nD) : S128x7168.Idx → Elt Ideal .i8 := fun i => Spec.maskByte fun j : Fin 8 =>
  (m (c, main_arg3) : IVec S2x512x7168 32) (ix3 (⟨(i 0).val / 64, by have : (i 0).val < 128 := (i 0).isLt; omega⟩ : Fin 2) (⟨(i 0).val % 64 * 8 + j.val, by omega⟩ : Fin 512) (i 1))
/-- The means. -/
def meanR (c : Dev nD) : S2x512.Idx → Elt Ideal .f32 := fun i => Spec.mean (row m c (i 0) (i 1))
/-- The reciprocal roots. -/
def rstdR (c : Dev nD) : S2x512.Idx → Elt Ideal .f32 := fun i => Spec.rstd (row m c (i 0) (i 1))
/-- The residual sums. -/
def hR (c : Dev nD) : S1024x7168.Idx → Elt Ideal .bf16 := fun i =>
  row m c (⟨(i 0).val / 512, by have : (i 0).val < 1024 := (i 0).isLt; omega⟩ : Fin 2) (⟨(i 0).val % 512, by omega⟩ : Fin 512) (i 1)

theorem block_at (c : Dev nD) (t : Fin cfg0.N) (n : Fin 1024) (k : Fin 7168) :
    (iblk m c 0 t : FVec Ideal S1024x7168 .f32) (ix2 n k) = (V m c main_v68 : FVec Ideal S1024x7168 .f32) (ix2 n k) := by
  show (V m c main_v68 : FVec Ideal S1024x7168 .f32) _ = _
  congr 1
  funext a
  apply Fin.ext
  match a with
  | ⟨0, _⟩ => show 0 * 1024 + 1 * n.val = n.val; omega
  | ⟨1, _⟩ => show 0 * 7168 + 1 * k.val = k.val; omega

theorem out_emb (t : Fin cfg0.N) (n : Fin 1024) (k : Fin 7168) :
    ((cfg0.win 1).blk t).view.emb (ix2 n k) = (ix2 n k : S1024x7168.Idx) := by
  funext a
  apply Fin.ext
  match a with
  | ⟨0, _⟩ => show 0 * 1024 + 1 * n.val = n.val; omega
  | ⟨1, _⟩ => show 0 * 7168 + 1 * k.val = k.val; omega

theorem out_at (x : FVec Ideal S1024x7168 .f32) (n : Fin 1024) (k : Fin 7168) :
    ((out0_1 (F := Ideal) x : FVec Ideal S1024x7168 .fp8e4m3) (ix2 n k) : EReal) = min (Ideal.ofBits .f32 0x43E00000#32) (max (Ideal.ofBits .f32 0xC3E00000#32) (x (ix2 n k))) := by
  unfold out0_1
  refine (Value.canon1_eq _ _).trans ?_
  show min _ (max _ (x _)) = _
  refine congrArg (fun i => min (Ideal.ofBits .f32 0x43E00000#32) (max (Ideal.ofBits .f32 0xC3E00000#32) (x i))) ?_
  funext a
  apply Fin.ext
  match a with
  | ⟨0, _⟩ => show 0 + 1 * n.val = n.val; omega
  | ⟨1, _⟩ => show 0 + 1 * k.val = k.val; omega

theorem codes_eq (c : Dev nD) : (dats m 0 c).arrAt 1 cfg0.N = codesR m c := by
  funext i
  obtain ⟨n, k, rfl⟩ : ∃ (n : Fin 1024) (k : Fin 7168), i = ix2 n k := ⟨i 0, i 1, eq_ix2 i⟩
  have h := congrFun (Value.blocks1 m c t0_0 (flush0_1 _)) (ix2 n k)
  rw [Value.flushed1, View.read_apply, out_emb] at h
  refine h.trans ((out_at _ n k).trans ?_)
  rw [block_at, scaled_at]
  rfl

/-- Every execution of the reference ends with the six results at these values. -/
theorem run : θ_run defs (onTc (τ := τ) (main (F := Ideal))) ⟨m, fun _ => 0, ρ⟩ (fun r => ∀ c : Dev nD,
      r.2.mem ((c.tc : Thread nD τ).loc main_v69) = codesR m c
      ∧ r.2.mem ((c.tc : Thread nD τ).loc main_v50) = scalesR m c
      ∧ r.2.mem ((c.tc : Thread nD τ).loc main_v66) = maskR m c
      ∧ r.2.mem ((c.tc : Thread nD τ).loc main_v15) = meanR m c
      ∧ r.2.mem ((c.tc : Thread nD τ).loc main_v25) = rstdR m c
      ∧ r.2.mem ((c.tc : Thread nD τ).loc main_v67) = hR m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨?_, ?_, ?_, ?_, ?_, ?_, Value.kept_main_arg0 m r h c, Value.kept_main_arg1 m r h c,
    Value.kept_main_arg2 m r h c, Value.kept_main_arg3 m r h c, Value.kept_main_arg4 m r h c, Value.kept_main_arg5 m r h c⟩) (Gen.run_main m ρ)
  · exact (Value.post1 m r h c).trans (codes_eq m c)
  · refine ((h c).2 main_v50 (Pipeline.mem_restRefs_of main_v50 (by decide) (by decide))).trans ?_
    funext i
    obtain ⟨b, s, rfl⟩ : ∃ (b : Fin 2) (s : Fin 512), i = ix2 b s := ⟨i 0, i 1, eq_ix2 i⟩
    exact scale_at m c b s
  · refine ((h c).2 main_v66 (Pipeline.mem_restRefs_of main_v66 (by decide) (by decide))).trans ?_
    funext i
    obtain ⟨b, k, rfl⟩ : ∃ (b : Fin 128) (k : Fin 7168), i = ix2 b k := ⟨i 0, i 1, eq_ix2 i⟩
    exact v66 m c b k
  · refine ((h c).2 main_v15 (Pipeline.mem_restRefs_of main_v15 (by decide) (by decide))).trans ?_
    funext i
    obtain ⟨b, s, rfl⟩ : ∃ (b : Fin 2) (s : Fin 512), i = ix2 b s := ⟨i 0, i 1, eq_ix2 i⟩
    exact mean_at m c b s
  · refine ((h c).2 main_v25 (Pipeline.mem_restRefs_of main_v25 (by decide) (by decide))).trans ?_
    funext i
    obtain ⟨b, s, rfl⟩ : ∃ (b : Fin 2) (s : Fin 512), i = ix2 b s := ⟨i 0, i 1, eq_ix2 i⟩
    exact rstd_at m c b s
  · refine ((h c).2 main_v67 (Pipeline.mem_restRefs_of main_v67 (by decide) (by decide))).trans ?_
    funext i
    obtain ⟨n, k, rfl⟩ : ∃ (n : Fin 1024) (k : Fin 7168), i = ix2 n k := ⟨i 0, i 1, eq_ix2 i⟩
    exact (v67 m c n k).trans (v11 m c _ _ k)

end Cert.ReferenceIdeal.Leg

end
-- ==== Proof.Joined.lean ====
/- The kernel's results are the reference's, on equal arguments whose affine parameters are finite. -/
module

public import proofs.«01_k».proof.Defs
public import proofs.«01_k».proof.Proof.KernelRun
public import proofs.«01_k».proof.Proof.RefRun

@[expose] public section

set_option maxRecDepth 16384

noncomputable section

namespace Cert.Joined

open Idealize.ShloMosaic Idealize.ShloMosaic.TcCoe Idealize.SL.Sem

instance facts : Cert.Pre_affine_finite.Facts := ⟨by decide⟩

theorem both (a b : BitVec 1) (h : a &&& b = 1#1) : a = 1#1 ∧ b = 1#1 := by
  revert a b; decide

theorem le_of_cmp (x y : EReal) (h : Ideal.cmp .ole x y = 1#1) : x ≤ y := by
  by_contra hn
  have : Ideal.cmp .ole x y = 0#1 := by
    show BitVec.ofBool (decide (x ≤ y)) = 0#1
    rw [decide_eq_false hn]
    rfl
  rw [this] at h
  exact absurd h (by decide)

/-- The precondition, read at one lane. -/
theorem affineOk (m : (ℓ : Loc Cert.KernelIdeal.nD Cert.KernelIdeal.τ Cert.KernelIdeal.sig) → Buf (Elt Ideal) ℓ)
    (h : Cert.Pre_KernelIdeal_affine_finite m) (c : Dev Cert.KernelIdeal.nD) : Cert.KernelIdeal.Body.AffineOk m c := by
  have hb : ∀ k : Fin 7168, Ideal.cmp .ole (max (Cert.KernelIdeal.Body.gRow m c k) (-(Cert.KernelIdeal.Body.gRow m c k))) (Ideal.ofBits .f32 0x7F7FFFFF#32) = 1#1
      ∧ Ideal.cmp .ole (max (Cert.KernelIdeal.Body.bRow m c k) (-(Cert.KernelIdeal.Body.bRow m c k))) (Ideal.ofBits .f32 0x7F7FFFFF#32) = 1#1 :=
    fun k => both _ _ (congrFun (h c) (ix1 k))
  exact ⟨fun k => le_of_cmp _ _ (hb k).1, fun k => le_of_cmp _ _ (hb k).2⟩

section Same

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- Equal arguments on a device. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m'} {c : Dev Cert.KernelIdeal.nD} (h : Same m m' c)
include h

theorem row_eq (b : Fin 2) (s : Fin 512) : Cert.ReferenceIdeal.Leg.row m' c b s = Cert.KernelIdeal.Body.row m c b s := by
  obtain ⟨h0, h1, h2, h3, _, _⟩ := h
  funext k
  unfold Cert.ReferenceIdeal.Leg.row Cert.KernelIdeal.Body.row
  exact congr (congr (congr (congrArg Cert.Spec.resid (congrFun h3 (ix3 b s k))) (congrFun h1 (ix3 b s k))) (congrFun h2 (ix1 k))) (congrFun h0 (ix3 b s k))

theorem normed_eq (b : Fin 2) (s : Fin 512) : Cert.ReferenceIdeal.Leg.normed m' c b s = Cert.KernelIdeal.Body.normed m c b s := by
  obtain ⟨_, _, _, _, h4, h5⟩ := id h
  unfold Cert.ReferenceIdeal.Leg.normed Cert.KernelIdeal.Body.normed
  exact congr (congr (congrArg Cert.Spec.norm (row_eq h b s)) (funext fun k => congrFun h4 (ix1 k))) (funext fun k => congrFun h5 (ix1 k))

theorem codes_eq : Cert.ReferenceIdeal.Leg.codesR m' c = Cert.KernelIdeal.Body.codesG m c := by
  funext i
  unfold Cert.ReferenceIdeal.Leg.codesR
  rw [normed_eq h]
  rfl

theorem scales_eq : Cert.ReferenceIdeal.Leg.scalesR m' c = Cert.KernelIdeal.Body.scalesG m c := by
  funext i
  exact congrArg (fun y : Cert.Spec.Row => Cert.Spec.scale (Cert.Spec.ratio y)) (normed_eq h _ _)

theorem mask_eq : Cert.ReferenceIdeal.Leg.maskR m' c = Cert.KernelIdeal.Body.maskG m c := by
  obtain ⟨_, _, _, h3, _, _⟩ := h
  funext i
  exact congrArg Cert.Spec.maskByte (funext fun j => congrFun h3 _)

theorem mean_eq : Cert.ReferenceIdeal.Leg.meanR m' c = Cert.KernelIdeal.Body.meanG m c := by
  funext i
  exact congrArg Cert.Spec.mean (row_eq h _ _)

theorem rstd_eq : Cert.ReferenceIdeal.Leg.rstdR m' c = Cert.KernelIdeal.Body.rstdG m c := by
  funext i
  exact congrArg Cert.Spec.rstd (row_eq h _ _)

theorem h_eq : Cert.ReferenceIdeal.Leg.hR m' c = Cert.KernelIdeal.Body.hG m c := by
  funext i
  exact congrFun (row_eq h _ _) _

end Same

/-- Both programs run and end with the same six results. -/
theorem algebraic : Cert.algebraic_KernelIdeal_ReferenceIdeal_pre_affine_finite (hKernelIdeal := Cert.KernelIdeal.Gen.facts)
    (hReferenceIdeal := Cert.ReferenceIdeal.Gen.facts) (hPre_affine_finite := facts) := by
  intro m g m' g' hp hs
  refine ⟨Cert.KernelIdeal.Body.codesG m, Cert.KernelIdeal.Body.scalesG m, Cert.KernelIdeal.Body.maskG m, Cert.KernelIdeal.Body.meanG m,
    Cert.KernelIdeal.Body.rstdG m, Cert.KernelIdeal.Body.hG m, Cert.KernelIdeal.Body.run m g (affineOk m hp), ?_⟩
  refine (θ_run _ _ _).mono (fun r h c => ?_) (Cert.ReferenceIdeal.Leg.run m' g')
  obtain ⟨h0, h1, h2, h3, h4, h5, hk⟩ := h c
  exact ⟨h0.trans (codes_eq (hs c)), h1.trans (scales_eq (hs c)), h2.trans (mask_eq (hs c)), h3.trans (mean_eq (hs c)),
    h4.trans (rstd_eq (hs c)), h5.trans (h_eq (hs c)), hk⟩

end Cert.Joined

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RunP
public import proofs.«01_k».proof.Proof.Gen.ReferenceIdeal.Value
public import proofs.«01_k».proof.Proof.RunPI
public import proofs.«01_k».proof.Proof.Joined
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Joined.facts,
  fun m ρ _ => Cert.Kernel.Body.frame m ρ,
  fun m ρ _ => Cert.KernelIdeal.Body.frame m ρ,
  fun m ρ _ => Cert.KernelIdeal.Body.frame m ρ,
  fun m ρ _ => Cert.ReferenceIdeal.Gen.frame m ρ,
  fun m ρ _ => Cert.ReferenceIdeal.Gen.frame m ρ,
  IdealRules.named_const.statement Cert.KernelIdeal.κ "inv_d" .f32 0x39124925#32 ((1 / 7168 : ℝ) : EReal) rfl,
  Cert.Joined.algebraic⟩

end Cert.Proof

end
